-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_qk : Cert.Pre_finite_qk.Facts) (hPre_routed : Cert.Pre_routed.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal) (hPre_routed := hPre_routed)
-- ==== Pre_finite_qk.lean ====
abbrev S49152x1024 : Shape := ⟨2, ![49152, 1024]⟩
abbrev S49152x256 : Shape := ⟨2, ![49152, 256]⟩
abbrev S49152x2048 : Shape := ⟨2, ![49152, 2048]⟩
abbrev S_ : Shape := ⟨0, ![]⟩

class Facts : Prop where
  bcast_S_S49152x1024 : S_.BroadcastsInDim S49152x1024 (![] : Fin 0 → Fin S49152x1024.rank)
  reducesTo_S49152x1024_S_d0_1 : S49152x1024.ReducesTo [0, 1] S_
  h_S_ : 0 < S_.numel
  bcast_S_S49152x256 : S_.BroadcastsInDim S49152x256 (![] : Fin 0 → Fin S49152x256.rank)
  reducesTo_S49152x256_S_d0_1 : S49152x256.ReducesTo [0, 1] S_

variable [Facts]

def fn {F : FTy → Type} [FloatOps F] (main_arg0 : FVec F S49152x1024 .f32) (main_arg1 : FVec F S49152x256 .f32) (main_arg2 : FVec F S49152x256 .f32) (main_arg3 : FVec F S49152x2048 .bf16) : IVec S_ 1 :=
  let main_v0 : FVec F S49152x1024 .f32 := Host.absf main_arg0
  let main_cst : FVec F S_ .f32 := constant S_ .f32 0x7F800000#32
  let main_v1 : FVec F S49152x1024 .f32 := broadcastInDim S49152x1024 ![] bcast_S_S49152x1024 main_cst
  let main_v2 : IVec S49152x1024 1 := cmpf .olt main_v0 main_v1
  let main_c : IVec S_ 1 := constantI S_ 1 1#1
  let main_v3 : IVec S_ 1 := (fun x v => Host.reduce IntOp.andi x v reducesTo_S49152x1024_S_d0_1 h_S_) main_v2 main_c
  let main_v4 : FVec F S49152x256 .f32 := Host.absf main_arg1
  let main_cst_0 : FVec F S_ .f32 := constant S_ .f32 0x7F800000#32
  let main_v5 : FVec F S49152x256 .f32 := broadcastInDim S49152x256 ![] bcast_S_S49152x256 main_cst_0
  let main_v6 : IVec S49152x256 1 := cmpf .olt main_v4 main_v5
  let main_c_1 : IVec S_ 1 := constantI S_ 1 1#1
  let main_v7 : IVec S_ 1 := (fun x v => Host.reduce IntOp.andi x v reducesTo_S49152x256_S_d0_1 h_S_) main_v6 main_c_1
  let main_v8 : IVec S_ 1 := andi main_v3 main_v7
  main_v8
-- ==== Pre_routed.lean ====
abbrev S55296 : Shape := ⟨1, ![55296]⟩
abbrev S216 : Shape := ⟨1, ![216]⟩
abbrev S49152x2176 : Shape := ⟨2, ![49152, 2176]⟩
abbrev S16x2048x512 : Shape := ⟨3, ![16, 2048, 512]⟩
abbrev S16x512x2048 : Shape := ⟨3, ![16, 512, 2048]⟩
abbrev S_ : Shape := ⟨0, ![]⟩
abbrev S213 : Shape := ⟨1, ![213]⟩

class Facts : Prop where
  bcast_S_S55296 : S_.BroadcastsInDim S55296 (![] : Fin 0 → Fin S55296.rank)
  reducesTo_S55296_S_d0 : S55296.ReducesTo [0] S_
  h_S_ : 0 < S_.numel
  bcast_S_S216 : S_.BroadcastsInDim S216 (![] : Fin 0 → Fin S216.rank)
  reducesTo_S216_S_d0 : S216.ReducesTo [0] S_
  slices_S216_S213_3 : S216.Slices ![3] S213
  bcast_S_S213 : S_.BroadcastsInDim S213 (![] : Fin 0 → Fin S213.rank)
  slices_S216_S213_0 : S216.Slices ![0] S213
  reducesTo_S213_S_d0 : S213.ReducesTo [0] S_

variable [Facts]

def fn_part1 {F : FTy → Type} [FloatOps F] (main_arg1 : IVec S216 32) (main_arg2 : IVec S216 32) (main_arg3 : IVec S216 32) (main_v5 : IVec S_ 1) (main_v11 : IVec S_ 1) (main_v13 : IVec S216 1) (main_v15 : IVec S216 1) : IVec S_ 1 :=
  let main_v16 : IVec S216 1 := andi main_v13 main_v15
  let main_c_7 : IVec S_ 1 := constantI S_ 1 1#1
  let main_v17 : IVec S_ 1 := (fun x v => Host.reduce IntOp.andi x v reducesTo_S216_S_d0 h_S_) main_v16 main_c_7
  let main_v18 : IVec S216 1 := cmpi .ne main_arg1 main_arg2
  let main_c_8 : IVec S_ 1 := constantI S_ 1 1#1
  let main_v19 : IVec S_ 1 := (fun x v => Host.reduce IntOp.andi x v reducesTo_S216_S_d0 h_S_) main_v18 main_c_8
  let main_v20 : IVec S213 32 := (extractStridedSlice S213 ![3] · slices_S216_S213_3) main_arg3
  let main_c_9 : IVec S_ 32 := constantI S_ 32 0#32
  let main_v21 : IVec S213 32 := broadcastInDim S213 ![] bcast_S_S213 main_c_9
  let main_v22 : IVec S213 1 := cmpi .sle main_v20 main_v21
  let main_v23 : IVec S213 32 := (extractStridedSlice S213 ![0] · slices_S216_S213_0) main_arg3
  let main_c_10 : IVec S_ 32 := constantI S_ 32 0#32
  let main_v24 : IVec S213 32 := broadcastInDim S213 ![] bcast_S_S213 main_c_10
  let main_v25 : IVec S213 1 := cmpi .sgt main_v23 main_v24
  let main_v26 : IVec S213 1 := ori main_v22 main_v25
  let main_c_11 : IVec S_ 1 := constantI S_ 1 1#1
  let main_v27 : IVec S_ 1 := (fun x v => Host.reduce IntOp.andi x v reducesTo_S213_S_d0 h_S_) main_v26 main_c_11
  let main_v28 : IVec S_ 1 := andi main_v5 main_v27
  let main_v29 : IVec S_ 1 := andi main_v11 main_v17
  let main_v30 : IVec S_ 1 := andi main_v19 main_v29
  let main_v31 : IVec S_ 1 := andi main_v28 main_v30
  main_v31

def fn {F : FTy → Type} [FloatOps F] (main_arg0 : IVec S55296 32) (main_arg1 : IVec S216 32) (main_arg2 : IVec S216 32) (main_arg3 : IVec S216 32) (main_arg4 : FVec F S49152x2176 .f32) (main_arg5 : FVec F S16x2048x512 .f32) (main_arg6 : FVec F S16x2048x512 .f32) (main_arg7 : FVec F S16x512x2048 .f32) : IVec S_ 1 :=
  let main_c : IVec S_ 32 := constantI S_ 32 0#32
  let main_v0 : IVec S55296 32 := broadcastInDim S55296 ![] bcast_S_S55296 main_c
  let main_v1 : IVec S55296 1 := cmpi .sge main_arg0 main_v0
  let main_c_0 : IVec S_ 32 := constantI S_ 32 49152#32
  let main_v2 : IVec S55296 32 := broadcastInDim S55296 ![] bcast_S_S55296 main_c_0
  let main_v3 : IVec S55296 1 := cmpi .slt main_arg0 main_v2
  let main_v4 : IVec S55296 1 := andi main_v1 main_v3
  let main_c_1 : IVec S_ 1 := constantI S_ 1 1#1
  let main_v5 : IVec S_ 1 := (fun x v => Host.reduce IntOp.andi x v reducesTo_S55296_S_d0 h_S_) main_v4 main_c_1
  let main_c_2 : IVec S_ 32 := constantI S_ 32 0#32
  let main_v6 : IVec S216 32 := broadcastInDim S216 ![] bcast_S_S216 main_c_2
  let main_v7 : IVec S216 1 := cmpi .sge main_arg1 main_v6
  let main_c_3 : IVec S_ 32 := constantI S_ 32 16#32
  let main_v8 : IVec S216 32 := broadcastInDim S216 ![] bcast_S_S216 main_c_3
  let main_v9 : IVec S216 1 := cmpi .slt main_arg1 main_v8
  let main_v10 : IVec S216 1 := andi main_v7 main_v9
  let main_c_4 : IVec S_ 1 := constantI S_ 1 1#1
  let main_v11 : IVec S_ 1 := (fun x v => Host.reduce IntOp.andi x v reducesTo_S216_S_d0 h_S_) main_v10 main_c_4
  let main_c_5 : IVec S_ 32 := constantI S_ 32 0#32
  let main_v12 : IVec S216 32 := broadcastInDim S216 ![] bcast_S_S216 main_c_5
  let main_v13 : IVec S216 1 := cmpi .sge main_arg2 main_v12
  let main_c_6 : IVec S_ 32 := constantI S_ 32 16#32
  let main_v14 : IVec S216 32 := broadcastInDim S216 ![] bcast_S_S216 main_c_6
  let main_v15 : IVec S216 1 := cmpi .slt main_arg2 main_v14
  fn_part1 (F := F) main_arg1 main_arg2 main_arg3 main_v5 main_v11 main_v13 main_v15
-- ==== Kernel.lean ====
abbrev S49152x1024 : Shape := ⟨2, ![49152, 1024]⟩
abbrev S49152x256 : Shape := ⟨2, ![49152, 256]⟩
abbrev S49152x2048 : Shape := ⟨2, ![49152, 2048]⟩
abbrev S_ : Shape := ⟨0, ![]⟩
abbrev S256x512 : Shape := ⟨2, ![256, 512]⟩
abbrev S2048x128 : Shape := ⟨2, ![2048, 128]⟩
abbrev S1024x128 : Shape := ⟨2, ![1024, 128]⟩
abbrev S256x128 : Shape := ⟨2, ![256, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 17
  | .vmem => 12
  | .smem => 0
  | _ => 0

abbrev bufTy : (tb : Table) → Fin (tcTables nBuf tb) → BufTy
  | .hbm, ⟨0, _⟩ => ⟨S49152x1024, .f32⟩
  | .hbm, ⟨1, _⟩ => ⟨S49152x256, .f32⟩
  | .hbm, ⟨2, _⟩ => ⟨S49152x256, .f32⟩
  | .hbm, ⟨3, _⟩ => ⟨S49152x2048, .bf16⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S49152x1024, .f32⟩
  | .hbm, ⟨12, _⟩ => ⟨S49152x1024, .f32⟩
  | .hbm, ⟨13, _⟩ => ⟨S49152x1024, .bf16⟩
  | .hbm, ⟨14, _⟩ => ⟨S49152x256, .bf16⟩
  | .hbm, ⟨15, _⟩ => ⟨S49152x256, .bf16⟩
  | .hbm, ⟨16, _⟩ => ⟨S49152x2048, .bf16⟩
  | .local _ .vmem, ⟨0, _⟩ => ⟨S256x512, .bf16⟩
  | .local _ .vmem, ⟨1, _⟩ => ⟨S256x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x512, .bf16⟩
  | .local _ .vmem, ⟨7, _⟩ => ⟨S256x512, .bf16⟩
  | .local _ .vmem, ⟨8, _⟩ => ⟨S1024x128, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 8], ![false, false, false]⟩

def k0_mult1 : BitVec 32 :=
  let c0_i32 : BitVec 32 := 0#32
  let c1024_i32 : BitVec 32 := 1024#32
  let v32 : BitVec 32 := Scalar.muli c0_i32 c1024_i32
  v32
def k0_off1 (c0_i32 : BitVec 32) : Fin 2 → Nat :=
  let c1024_i32 : BitVec 32 := 1024#32
  let v32 : BitVec 32 := Scalar.muli c0_i32 c1024_i32
  let v33 : BitVec 32 := v32
  let v35 : Index := Scalar.indexCast v33
  let c0_20 : Index := 0#32
  ![v35.toNat, 0]
def k0_mult2 : BitVec 32 :=
  let c1_i32 : BitVec 32 := 1#32
  let c1024_i32_38 : BitVec 32 := 1024#32
  let v72 : BitVec 32 := Scalar.muli c1_i32 c1024_i32_38
  v72
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S49152x1024 : Shape := ⟨2, ![49152, 1024]⟩
abbrev S49152x256 : Shape := ⟨2, ![49152, 256]⟩
abbrev S49152x2048 : Shape := ⟨2, ![49152, 2048]⟩
abbrev S32768x1024 : Shape := ⟨2, ![32768, 1024]⟩
abbrev S16x2048x2x4x128 : Shape := ⟨5, ![16, 2048, 2, 4, 128]⟩
abbrev S32768x256 : Shape := ⟨2, ![32768, 256]⟩
abbrev S16x2048x2x128 : Shape := ⟨4, ![16, 2048, 2, 128]⟩
abbrev S_ : Shape := ⟨0, ![]⟩
abbrev S16x2x2048x2048x4 : Shape := ⟨5, ![16, 2, 2048, 2048, 4]⟩
abbrev S16x2x4x2048x2048 : Shape := ⟨5, ![16, 2, 4, 2048, 2048]⟩
abbrev S16x2x4x2048 : Shape := ⟨4, ![16, 2, 4, 2048]⟩
abbrev S16x2x4x2048x1 : Shape := ⟨5, ![16, 2, 4, 2048, 1]⟩
abbrev S16x2x128x4x2048 : Shape := ⟨5, ![16, 2, 128, 4, 2048]⟩

abbrev nBuf : Space → Nat
  | .hbm => 39
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S49152x256, .f32⟩
  | .hbm, ⟨2, _⟩ => ⟨S49152x256, .f32⟩
  | .hbm, ⟨3, _⟩ => ⟨S49152x2048, .bf16⟩
  | .hbm, ⟨4, _⟩ => ⟨S32768x1024, .f32⟩
  | .hbm, ⟨5, _⟩ => ⟨S16x2048x2x4x128, .f32⟩
  | .hbm, ⟨6, _⟩ => ⟨S32768x256, .f32⟩
  | .hbm, ⟨7, _⟩ => ⟨S16x2048x2x128, .f32⟩
  | .hbm, ⟨8, _⟩ => ⟨S32768x256, .f32⟩
  | .hbm, ⟨9, _⟩ => ⟨S16x2048x2x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16x2x2048x2048x4, .f32⟩
  | .hbm, ⟨15, _⟩ => ⟨S16x2x4x2048x2048, .f32⟩
  | .hbm, ⟨16, _⟩ => ⟨S16x2x4x2048x2048, .f32⟩
  | .hbm, ⟨17, _⟩ => ⟨S16x2x4x2048x2048, .f32⟩
  | .hbm, ⟨18, _⟩ => ⟨S_, .f32⟩
  | .hbm, ⟨19, _⟩ => ⟨S16x2x4x2048, .f32⟩
  | .hbm, ⟨20, _⟩ => ⟨S_, .f32⟩
  | .hbm, ⟨21, _⟩ => ⟨S16x2x4x2048, .f32⟩
  | .hbm, ⟨22, _⟩ => ⟨S16x2x4x2048, .f32⟩
  | .hbm, ⟨23, _⟩ => ⟨S16x2x4x2048x1, .f32⟩
  | .hbm, ⟨24, _⟩ => ⟨S16x2x4x2048x2048, .f32⟩
  | .hbm, ⟨25, _⟩ => ⟨S16x2x4x2048x2048, .f32⟩
  | .hbm, ⟨26, _⟩ => ⟨S16x2x4x2048x2048, .f32⟩
  | .hbm, ⟨27, _⟩ => ⟨S_, .f32⟩
  | .hbm, ⟨28, _⟩ => ⟨S16x2x4x2048, .f32⟩
  | .hbm, ⟨29, _⟩ => ⟨S16x2x4x2048x1, .f32⟩
  | .hbm, ⟨30, _⟩ => ⟨S16x2x4x2048x2048, .f32⟩
  | .hbm, ⟨31, _⟩ => ⟨S16x2x4x2048x2048, .f32⟩
  | .hbm, ⟨32, _⟩ => ⟨S16x2x128x4x2048, .f32⟩
  | .hbm, ⟨33, _⟩ => ⟨S16x2048x2x4x128, .f32⟩
  | .hbm, ⟨34, _⟩ => ⟨S32768x1024, .f32⟩
  | .hbm, ⟨35, _⟩ => ⟨S32768x1024, .bf16⟩
  | .hbm, ⟨36, _⟩ => ⟨S_, .i32⟩
  | .hbm, ⟨37, _⟩ => ⟨S_, .i32⟩
  | .hbm, ⟨38, _⟩ => ⟨S49152x2048, .bf16⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_c_4 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel2.lean ====
abbrev S55296 : Shape := ⟨1, ![55296]⟩
abbrev S216 : Shape := ⟨1, ![216]⟩
abbrev S49152x2176 : Shape := ⟨2, ![49152, 2176]⟩
abbrev S16x2048x512 : Shape := ⟨3, ![16, 2048, 512]⟩
abbrev S16x512x2048 : Shape := ⟨3, ![16, 512, 2048]⟩
abbrev S55296x2048 : Shape := ⟨2, ![55296, 2048]⟩
abbrev S1x2048x512 : Shape := ⟨3, ![1, 2048, 512]⟩
abbrev S1 : Shape := ⟨1, ![1]⟩
abbrev S1x512x2048 : Shape := ⟨3, ![1, 512, 2048]⟩
abbrev S256x2048 : Shape := ⟨2, ![256, 2048]⟩
abbrev S4x256x2176 : Shape := ⟨3, ![4, 256, 2176]⟩
abbrev S4 : Shape := ⟨1, ![4]⟩
abbrev S_ : Shape := ⟨0, ![]⟩
abbrev S1x1x2176 : Shape := ⟨3, ![1, 1, 2176]⟩
abbrev S1x2176 : Shape := ⟨2, ![1, 2176]⟩
abbrev S1x256x2048 : Shape := ⟨3, ![1, 256, 2048]⟩
abbrev S1x256x128 : Shape := ⟨3, ![1, 256, 128]⟩
abbrev S256x128 : Shape := ⟨2, ![256, 128]⟩
abbrev S2048x512 : Shape := ⟨2, ![2048, 512]⟩
abbrev S256x512 : Shape := ⟨2, ![256, 512]⟩
abbrev S512x2048 : Shape := ⟨2, ![512, 2048]⟩
abbrev S256x1 : Shape := ⟨2, ![256, 1]⟩

abbrev nBuf : Space → Nat
  | .hbm => 8
  | .vmem => 15
  | .smem => 4
  | _ => 0

abbrev bufTy : (tb : Table) → Fin (tcTables nBuf tb) → BufTy
  | .hbm, ⟨0, _⟩ => ⟨S49152x2176, .f32⟩
  | .hbm, ⟨1, _⟩ => ⟨S16x2048x512, .f32⟩
  | .hbm, ⟨2, _⟩ => ⟨S16x2048x512, .f32⟩
  | .hbm, ⟨3, _⟩ => ⟨S16x512x2048, .f32⟩
  | .hbm, ⟨4, _⟩ => ⟨S16x2048x512, .bf16⟩
  | .hbm, ⟨5, _⟩ => ⟨S16x2048x512, .bf16⟩
  | .hbm, ⟨6, _⟩ => ⟨S16x512x2048, .bf16⟩
  | .hbm, ⟨7, _⟩ => ⟨S55296x2048, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x512x2048, .bf16⟩
  | .local _ .vmem, ⟨11, _⟩ => ⟨S1x512x2048, .bf16⟩
  | .local _ .vmem, ⟨12, _⟩ => ⟨S256x2048, .f32⟩
  | .local _ .vmem, ⟨13, _⟩ => ⟨S256x2048, .f32⟩
  | .local _ .vmem, ⟨14, _⟩ => ⟨S4x256x2176, .f32⟩
  | .local _ .smem, ⟨0, _⟩ => ⟨S55296, .i32⟩
  | .local _ .smem, ⟨1, _⟩ => ⟨S216, .i32⟩
  | .local _ .smem, ⟨2, _⟩ => ⟨S216, .i32⟩
  | .local _ .smem, ⟨3, _⟩ => ⟨S216, .i32⟩
  | _, _ => ⟨S49152x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![216], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_4 : BitVec 32 := 0#32
  let v13 : BitVec 1 := Scalar.cmpi .eq arg0 c0_i32_4
  let v14 : BitVec 32 := Scalar.extui v13
  let c0_i32_5 : BitVec 32 := 0#32
  let v15 : BitVec 1 := Scalar.cmpi .ne v14 c0_i32_5
  v15

@[reducible] def k0_t1_loop : Scf.Loop 32 :=
  let c0_i32_14 : BitVec 32 := 0#32
  let c256_i32 : BitVec 32 := 256#32
  let v35 : BitVec 32 := Scalar.addi c0_i32_14 c256_i32
  let c1_i32_15 : BitVec 32 := 1#32
  ⟨c0_i32_14, v35, c1_i32_15⟩
def k0_off2 (k0_t1 : Fin k0_t1_loop.trips) : Fin 1 → Nat :=
  let c0_i32_25 : BitVec 32 := 0#32
  let c0_i32_14 : BitVec 32 := 0#32
  let c1_i32_15 : BitVec 32 := 1#32
  let arg15 : BitVec 32 := Scf.iv c0_i32_14 c1_i32_15 k0_t1
  let v38 : BitVec 32 := Scalar.addi c0_i32_25 arg15
  let v39 : Index := Scalar.indexCast v38
  ![v39.toNat]
def k0_off3 (k0_t1 : Fin k0_t1_loop.trips) : Fin 3 → Nat :=
  let c0_i32_26 : BitVec 32 := 0#32
  let c0_i32_14 : BitVec 32 := 0#32
  let c1_i32_15 : BitVec 32 := 1#32
  let arg15 : BitVec 32 := Scf.iv c0_i32_14 c1_i32_15 k0_t1
  let c0_i32_28 : BitVec 32 := 0#32
  ![0, arg15.toNat, 0]
def k0_off4 (v40 : BitVec 32) : Fin 2 → Nat :=
  let c0_i32_29 : BitVec 32 := 0#32
  ![v40.toNat, 0]

def k0_chk1 (i : grid0.Coords) (v40 : BitVec 32) : Prop :=
  (∀ (k0_h1 : k0_cond1 i = 1#1), ∀ a, (k0_off4 v40) a + S1x2176.size a ≤ S49152x2176.size a)
theorem k0_off4_inb : ∀ (i : grid0.Coords) (v40 : BitVec 32) (k0_hw1 : k0_chk1 i v40), ∀ (k0_h1 : k0_cond1 i = 1#1), ∀ a, (k0_off4 v40) a + S1x2176.size a ≤ S49152x2176.size a := fun i v40 k0_hw1 k0_h1 => k0_hw1 k0_h1

@[reducible] def k0_t2_loop : Scf.Loop 32 :=
  let c0_i32_17 : BitVec 32 := 0#32
  let c256_i32_18 : BitVec 32 := 256#32
  let v36 : BitVec 32 := Scalar.addi c0_i32_17 c256_i32_18
  let c1_i32_19 : BitVec 32 := 1#32
  ⟨c0_i32_17, v36, c1_i32_19⟩
def k0_off5 (k0_t2 : Fin k0_t2_loop.trips) : Fin 1 → Nat :=
  let c256_i32_25 : BitVec 32 := 256#32
  let c0_i32_17 : BitVec 32 := 0#32
  let c1_i32_19 : BitVec 32 := 1#32
  let arg15 : BitVec 32 := Scf.iv c0_i32_17 c1_i32_19 k0_t2
  let v38 : BitVec 32 := Scalar.addi c256_i32_25 arg15
  let v39 : Index := Scalar.indexCast v38
  ![v39.toNat]
def k0_off6 (k0_t2 : Fin k0_t2_loop.trips) : Fin 3 → Nat :=
  let c1_i32_26 : BitVec 32 := 1#32
  let c0_i32_17 : BitVec 32 := 0#32
  let c1_i32_19 : BitVec 32 := 1#32
  let arg15 : BitVec 32 := Scf.iv c0_i32_17 c1_i32_19 k0_t2
  let c0_i32_28 : BitVec 32 := 0#32
  ![1, arg15.toNat, 0]
def k0_off7 (v40 : BitVec 32) : Fin 2 → Nat :=
  let c0_i32_29 : BitVec 32 := 0#32
  ![v40.toNat, 0]

def k0_chk2 (i : grid0.Coords) (v40 : BitVec 32) : Prop :=
  (∀ (k0_h1 : k0_cond1 i = 1#1), ∀ a, (k0_off7 v40) a + S1x2176.size a ≤ S49152x2176.size a)
theorem k0_off7_inb : ∀ (i : grid0.Coords) (v40 : BitVec 32) (k0_hw2 : k0_chk2 i v40), ∀ (k0_h1 : k0_cond1 i = 1#1), ∀ a, (k0_off7 v40) a + S1x2176.size a ≤ S49152x2176.size a := fun i v40 k0_hw2 k0_h1 => k0_hw2 k0_h1

@[reducible] def k0_t3_loop : Scf.Loop 32 :=
  let c0_i32_21 : BitVec 32 := 0#32
  let c256_i32_22 : BitVec 32 := 256#32
  let v37 : BitVec 32 := Scalar.addi c0_i32_21 c256_i32_22
  let c1_i32_23 : BitVec 32 := 1#32
  ⟨c0_i32_21, v37, c1_i32_23⟩
def k0_off8 (k0_t3 : Fin k0_t3_loop.trips) : Fin 1 → Nat :=
  let c512_i32 : BitVec 32 := 512#32
  let c0_i32_21 : BitVec 32 := 0#32
  let c1_i32_23 : BitVec 32 := 1#32
  let arg15 : BitVec 32 := Scf.iv c0_i32_21 c1_i32_23 k0_t3
  let v38 : BitVec 32 := Scalar.addi c512_i32 arg15
  let v39 : Index := Scalar.indexCast v38
  ![v39.toNat]
def k0_off9 (k0_t3 : Fin k0_t3_loop.trips) : Fin 3 → Nat :=
  let c2_i32 : BitVec 32 := 2#32
  let c0_i32_21 : BitVec 32 := 0#32
  let c1_i32_23 : BitVec 32 := 1#32
  let arg15 : BitVec 32 := Scf.iv c0_i32_21 c1_i32_23 k0_t3
  let c0_i32_26 : BitVec 32 := 0#32
  ![2, arg15.toNat, 0]
def k0_off10 (v40 : BitVec 32) : Fin 2 → Nat :=
  let c0_i32_27 : BitVec 32 := 0#32
  ![v40.toNat, 0]

def k0_chk3 (i : grid0.Coords) (v40 : BitVec 32) : Prop :=
  (∀ (k0_h1 : k0_cond1 i = 1#1), ∀ a, (k0_off10 v40) a + S1x2176.size a ≤ S49152x2176.size a)
theorem k0_off10_inb : ∀ (i : grid0.Coords) (v40 : BitVec 32) (k0_hw3 : k0_chk3 i v40), ∀ (k0_h1 : k0_cond1 i = 1#1), ∀ a, (k0_off10 v40) a + S1x2176.size a ≤ S49152x2176.size a := fun i v40 k0_hw3 k0_h1 => k0_hw3 k0_h1

@[reducible] def k0_t4_loop : Scf.Loop 32 :=
  let c0_i32_22 : BitVec 32 := 0#32
  let c256_i32_23 : BitVec 32 := 256#32
  let v48 : BitVec 32 := Scalar.addi c0_i32_22 c256_i32_23
  let c1_i32_24 : BitVec 32 := 1#32
  ⟨c0_i32_22, v48, c1_i32_24⟩
def k0_off11 (i : grid0.Coords) (k0_t4 : Fin k0_t4_loop.trips) : Fin 1 → Nat :=
  let arg0 : BitVec 32 := BitVec.ofNat 32 (i 0).val
  let c3_i32_14 : BitVec 32 := 3#32
  let v35 : BitVec 32 := Scalar.addi arg0 c3_i32_14
  let c256_i32 : BitVec 32 := 256#32
  let v36 : BitVec 32 := Scalar.muli v35 c256_i32
  let c0_i32_22 : BitVec 32 := 0#32
  let c1_i32_24 : BitVec 32 := 1#32
  let arg15 : BitVec 32 := Scf.iv c0_i32_22 c1_i32_24 k0_t4
  let v49 : BitVec 32 := Scalar.addi v36 arg15
  let v50 : Index := Scalar.indexCast v49
  ![v50.toNat]
def k0_cond2 (i : grid0.Coords) (v11 : BitVec 32) : BitVec 1 :=
  let c0_i32_3 : BitVec 32 := 0#32
  let v12 : BitVec 1 := Scalar.cmpi .sgt v11 c0_i32_3
  let arg0 : BitVec 32 := BitVec.ofNat 32 (i 0).val
  let c3_i32 : BitVec 32 := 3#32
  let v16 : BitVec 32 := Scalar.addi arg0 c3_i32
  let c216_i32 : BitVec 32 := 216#32
  let v17 : BitVec 1 := Scalar.cmpi .slt v16 c216_i32
  let v18 : BitVec 1 := Scalar.andi v12 v17
  let v19 : BitVec 32 := Scalar.extui v18
  let c0_i32_6 : BitVec 32 := 0#32
  let v20 : BitVec 1 := Scalar.cmpi .ne v19 c0_i32_6
  v20

def k0_chk4 (i : grid0.Coords) (v11 : BitVec 32) : Prop :=
  (∀ k0_t4 : Fin k0_t4_loop.trips, ∀ (k0_h2 : k0_cond2 i v11 = 1#1), ∀ a, (k0_off11 i k0_t4) a + S1.size a ≤ S55296.size a)
theorem k0_off11_inb : ∀ (i : grid0.Coords) (v11 : BitVec 32) (k0_hw4 : k0_chk4 i v11) (k0_t4 : Fin k0_t4_loop.trips), ∀ (k0_h2 : k0_cond2 i v11 = 1#1), ∀ a, (k0_off11 i k0_t4) a + S1.size a ≤ S55296.size a := fun i v11 k0_hw4 k0_t4 k0_h2 => k0_hw4 k0_t4 k0_h2

def k0_off12 (i : grid0.Coords) : Fin 1 → Nat :=
  let arg0 : BitVec 32 := BitVec.ofNat 32 (i 0).val
  let c3_i32_15 : BitVec 32 := 3#32
  let v37 : BitVec 32 := Scalar.addi arg0 c3_i32_15
  let c4_i32_16 : BitVec 32 := 4#32
  let c0_i32_17 : BitVec 32 := 0#32
  let v38 : BitVec 1 := Scalar.cmpi .eq c4_i32_16 c0_i32_17
  let c1_i32_18 : BitVec 32 := 1#32
  let v39 : BitVec 32 := Scalar.select v38 c1_i32_18 c4_i32_16
  let v40 : BitVec 32 := Scalar.remsi v37 v39
  let c0_i32_20 : BitVec 32 := 0#32
  let v42 : BitVec 1 := Scalar.cmpi .slt v40 c0_i32_20
  let c0_i32_21 : BitVec 32 := 0#32
  let v43 : BitVec 1 := Scalar.cmpi .slt v39 c0_i32_21
  let v44 : BitVec 1 := Scalar.xori v42 v43
  let c0_i32_19 : BitVec 32 := 0#32
  let v41 : BitVec 1 := Scalar.cmpi .ne v40 c0_i32_19
  let v45 : BitVec 1 := Scalar.andi v44 v41
  let v46 : BitVec 32 := Scalar.addi v40 v39
  let v47 : BitVec 32 := Scalar.select v45 v46 v40
  ![v47.toNat]
def k0_off13 (i : grid0.Coords) (k0_t4 : Fin k0_t4_loop.trips) : Fin 3 → Nat :=
  let arg0 : BitVec 32 := BitVec.ofNat 32 (i 0).val
  let c3_i32_15 : BitVec 32 := 3#32
  let v37 : BitVec 32 := Scalar.addi arg0 c3_i32_15
  let c4_i32_16 : BitVec 32 := 4#32
  let c0_i32_17 : BitVec 32 := 0#32
  let v38 : BitVec 1 := Scalar.cmpi .eq c4_i32_16 c0_i32_17
  let c1_i32_18 : BitVec 32 := 1#32
  let v39 : BitVec 32 := Scalar.select v38 c1_i32_18 c4_i32_16
  let v40 : BitVec 32 := Scalar.remsi v37 v39
  let c0_i32_20 : BitVec 32 := 0#32
  let v42 : BitVec 1 := Scalar.cmpi .slt v40 c0_i32_20
  let c0_i32_21 : BitVec 32 := 0#32
  let v43 : BitVec 1 := Scalar.cmpi .slt v39 c0_i32_21
  let v44 : BitVec 1 := Scalar.xori v42 v43
  let c0_i32_19 : BitVec 32 := 0#32
  let v41 : BitVec 1 := Scalar.cmpi .ne v40 c0_i32_19
  let v45 : BitVec 1 := Scalar.andi v44 v41
  let v46 : BitVec 32 := Scalar.addi v40 v39
  let v47 : BitVec 32 := Scalar.select v45 v46 v40
  let c0_i32_22 : BitVec 32 := 0#32
  let c1_i32_24 : BitVec 32 := 1#32
  let arg15 : BitVec 32 := Scf.iv c0_i32_22 c1_i32_24 k0_t4
  let c0_i32_26 : BitVec 32 := 0#32
  ![v47.toNat, arg15.toNat, 0]
def k0_off14 (v51 : BitVec 32) : Fin 2 → Nat :=
  let c0_i32_27 : BitVec 32 := 0#32
  ![v51.toNat, 0]

def k0_chk5 (i : grid0.Coords) (v11 : BitVec 32) (v51 : BitVec 32) : Prop :=
  (∀ (k0_h2 : k0_cond2 i v11 = 1#1), ∀ a, (k0_off14 v51) a + S1x2176.size a ≤ S49152x2176.size a)
theorem k0_off14_inb : ∀ (i : grid0.Coords) (v11 : BitVec 32) (v51 : BitVec 32) (k0_hw5 : k0_chk5 i v11 v51), ∀ (k0_h2 : k0_cond2 i v11 = 1#1), ∀ a, (k0_off14 v51) a + S1x2176.size a ≤ S49152x2176.size a := fun i v11 v51 k0_hw5 k0_h2 => k0_hw5 k0_h2

def k0_off15 (i : grid0.Coords) : Fin 1 → Nat :=
  let arg0 : BitVec 32 := BitVec.ofNat 32 (i 0).val
  let c3_i32_8 : BitVec 32 := 3#32
  let v22 : BitVec 32 := Scalar.subi arg0 c3_i32_8
  let c0_i32_9 : BitVec 32 := 0#32
  let v23 : BitVec 32 := Scalar.maxsi v22 c0_i32_9
  let v24 : Index := Scalar.indexCast v23
  ![v24.toNat]
@[reducible] def k0_t5_loop : Scf.Loop 32 :=
  let c0_i32_14 : BitVec 32 := 0#32
  let c256_i32 : BitVec 32 := 256#32
  let v35 : BitVec 32 := Scalar.addi c0_i32_14 c256_i32
  let c1_i32_15 : BitVec 32 := 1#32
  ⟨c0_i32_14, v35, c1_i32_15⟩
def k0_off16 (i : grid0.Coords) : Fin 1 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off17 (i : grid0.Coords) (k0_t5 : Fin k0_t5_loop.trips) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c1_i32_15 : BitVec 32 := 1#32
  let arg15 : BitVec 32 := Scf.iv c0_i32_14 c1_i32_15 k0_t5
  let c0_i32_17 : BitVec 32 := 0#32
  ![v9.toNat, arg15.toNat, 0]
def k0_off18 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v35 : Index := Scalar.indexCast v9
  let c0 : Index := 0#32
  let c0_14 : Index := 0#32
  ![v35.toNat, 0, 0]
def k0_off19 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v39 : Index := Scalar.indexCast v9
  let c0_15 : Index := 0#32
  let c2048 : Index := 2048#32
  ![v39.toNat, 0, 2048]
def k0_cond4 (v11 : BitVec 32) : BitVec 1 :=
  let c0_i32_3 : BitVec 32 := 0#32
  let v12 : BitVec 1 := Scalar.cmpi .sgt v11 c0_i32_3
  let v_true : BitVec 1 := 1#1
  let v30 : BitVec 1 := Scalar.xori v12 v_true
  let v31 : BitVec 32 := Scalar.extui v30
  let c0_i32_12 : BitVec 32 := 0#32
  let v32 : BitVec 1 := Scalar.cmpi .ne v31 c0_i32_12
  v32

def k0_cond5 (v11 : BitVec 32) : BitVec 1 :=
  let c0_i32_3 : BitVec 32 := 0#32
  let v12 : BitVec 1 := Scalar.cmpi .sgt v11 c0_i32_3
  let v33 : BitVec 32 := Scalar.extui v12
  let c0_i32_13 : BitVec 32 := 0#32
  let v34 : BitVec 1 := Scalar.cmpi .ne v33 c0_i32_13
  v34

def cc0_transform_1 (k0_off1_inb : ∀ i : grid0.Coords, ∀ a, (k0_off1 i) a + S1.size a ≤ S216.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S216) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S216.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S216) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S216.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S216) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S216.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S216) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S216.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S216) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S216.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S216) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S55296 : Shape := ⟨1, ![55296]⟩
abbrev S216 : Shape := ⟨1, ![216]⟩
abbrev S49152x2176 : Shape := ⟨2, ![49152, 2176]⟩
abbrev S16x2048x512 : Shape := ⟨3, ![16, 2048, 512]⟩
abbrev S16x512x2048 : Shape := ⟨3, ![16, 512, 2048]⟩
abbrev S_ : Shape := ⟨0, ![]⟩
abbrev S55296x1 : Shape := ⟨2, ![55296, 1]⟩
abbrev S55296x2176 : Shape := ⟨2, ![55296, 2176]⟩
abbrev S55296x2048 : Shape := ⟨2, ![55296, 2048]⟩
abbrev S55296x2 : Shape := ⟨2, ![55296, 2]⟩
abbrev S216x256 : Shape := ⟨2, ![216, 256]⟩
abbrev S55296x2x1 : Shape := ⟨3, ![55296, 2, 1]⟩
abbrev S1x1x16 : Shape := ⟨3, ![1, 1, 16]⟩
abbrev S55296x2x16 : Shape := ⟨3, ![55296, 2, 16]⟩
abbrev S55296x16 : Shape := ⟨2, ![55296, 16]⟩
abbrev S55296x16x512 : Shape := ⟨3, ![55296, 16, 512]⟩
abbrev S16x2048x55296 : Shape := ⟨3, ![16, 2048, 55296]⟩
abbrev S55296x16x2048 : Shape := ⟨3, ![55296, 16, 2048]⟩
abbrev S55296x16x1 : Shape := ⟨3, ![55296, 16, 1]⟩

abbrev nBuf : Space → Nat
  | .hbm => 67
  | .vmem => 0
  | .smem => 0
  | _ => 0

abbrev bufTy : (tb : Table) → Fin (tcTables nBuf tb) → BufTy
  | .hbm, ⟨0, _⟩ => ⟨S55296, .i32⟩
  | .hbm, ⟨1, _⟩ => ⟨S216, .i32⟩
  | .hbm, ⟨2, _⟩ => ⟨S216, .i32⟩
  | .hbm, ⟨3, _⟩ => ⟨S216, .i32⟩
  | .hbm, ⟨4, _⟩ => ⟨S49152x2176, .f32⟩
  | .hbm, ⟨5, _⟩ => ⟨S16x2048x512, .f32⟩
  | .hbm, ⟨6, _⟩ => ⟨S16x2048x512, .f32⟩
  | .hbm, ⟨7, _⟩ => ⟨S16x512x2048, .f32⟩
  | .hbm, ⟨8, _⟩ => ⟨S_, .i32⟩
  | .hbm, ⟨9, _⟩ => ⟨S55296, .i32⟩
  | .hbm, ⟨10, _⟩ => ⟨S55296, .i1⟩
  | .hbm, ⟨11, _⟩ => ⟨S_, .i32⟩
  | .hbm, ⟨12, _⟩ => ⟨S55296, .i32⟩
  | .hbm, ⟨13, _⟩ => ⟨S55296, .i32⟩
  | .hbm, ⟨14, _⟩ => ⟨S55296, .i32⟩
  | .hbm, ⟨15, _⟩ => ⟨S55296x1, .i32⟩
  | .hbm, ⟨16, _⟩ => ⟨S55296x2176, .f32⟩
  | .hbm, ⟨17, _⟩ => ⟨S55296x2048, .f32⟩
  | .hbm, ⟨18, _⟩ => ⟨S55296x2, .f32⟩
  | .hbm, ⟨19, _⟩ => ⟨S216x256, .i32⟩
  | .hbm, ⟨20, _⟩ => ⟨S55296, .i32⟩
  | .hbm, ⟨21, _⟩ => ⟨S216x256, .i32⟩
  | .hbm, ⟨22, _⟩ => ⟨S55296, .i32⟩
  | .hbm, ⟨23, _⟩ => ⟨S55296x1, .i32⟩
  | .hbm, ⟨24, _⟩ => ⟨S55296x1, .i32⟩
  | .hbm, ⟨25, _⟩ => ⟨S55296x2, .i32⟩
  | .hbm, ⟨26, _⟩ => ⟨S55296x2x1, .i32⟩
  | .hbm, ⟨27, _⟩ => ⟨S1x1x16, .i32⟩
  | .hbm, ⟨28, _⟩ => ⟨S55296x2x16, .i32⟩
  | .hbm, ⟨29, _⟩ => ⟨S55296x2x16, .i32⟩
  | .hbm, ⟨30, _⟩ => ⟨S55296x2x16, .i1⟩
  | .hbm, ⟨31, _⟩ => ⟨S55296x2x16, .f32⟩
  | .hbm, ⟨32, _⟩ => ⟨S55296x2x1, .f32⟩
  | .hbm, ⟨33, _⟩ => ⟨S55296x2x16, .f32⟩
  | .hbm, ⟨34, _⟩ => ⟨S55296x2x16, .f32⟩
  | .hbm, ⟨35, _⟩ => ⟨S_, .f32⟩
  | .hbm, ⟨36, _⟩ => ⟨S55296x16, .f32⟩
  | .hbm, ⟨37, _⟩ => ⟨S55296x16x512, .f32⟩
  | .hbm, ⟨38, _⟩ => ⟨S55296x16x512, .f32⟩
  | .hbm, ⟨39, _⟩ => ⟨S55296x16x512, .f32⟩
  | .hbm, ⟨40, _⟩ => ⟨S_, .f32⟩
  | .hbm, ⟨41, _⟩ => ⟨S55296x16x512, .f32⟩
  | .hbm, ⟨42, _⟩ => ⟨S55296x16x512, .f32⟩
  | .hbm, ⟨43, _⟩ => ⟨S_, .f32⟩
  | .hbm, ⟨44, _⟩ => ⟨S55296x16x512, .f32⟩
  | .hbm, ⟨45, _⟩ => ⟨S55296x16x512, .f32⟩
  | .hbm, ⟨46, _⟩ => ⟨S55296x16x512, .f32⟩
  | .hbm, ⟨47, _⟩ => ⟨S55296x16x512, .f32⟩
  | .hbm, ⟨48, _⟩ => ⟨S55296x16x512, .f32⟩
  | .hbm, ⟨49, _⟩ => ⟨S16x2048x55296, .f32⟩
  | .hbm, ⟨50, _⟩ => ⟨S55296x16x2048, .f32⟩
  | .hbm, ⟨51, _⟩ => ⟨S55296x16x1, .f32⟩
  | .hbm, ⟨52, _⟩ => ⟨S55296x16x2048, .f32⟩
  | .hbm, ⟨53, _⟩ => ⟨S55296x16x2048, .f32⟩
  | .hbm, ⟨54, _⟩ => ⟨S_, .f32⟩
  | .hbm, ⟨55, _⟩ => ⟨S55296x2048, .f32⟩
  | .hbm, ⟨56, _⟩ => ⟨S216x256, .i32⟩
  | .hbm, ⟨57, _⟩ => ⟨S55296, .i32⟩
  | .hbm, ⟨58, _⟩ => ⟨S55296x1, .i32⟩
  | .hbm, ⟨59, _⟩ => ⟨S_, .i32⟩
  | .hbm, ⟨60, _⟩ => ⟨S55296x1, .i32⟩
  | .hbm, ⟨61, _⟩ => ⟨S55296x1, .i1⟩
  | .hbm, ⟨62, _⟩ => ⟨S_, .f32⟩
  | .hbm, ⟨63, _⟩ => ⟨S_, .f32⟩
  | .hbm, ⟨64, _⟩ => ⟨S55296x2048, .i1⟩
  | .hbm, ⟨65, _⟩ => ⟨S55296x2048, .f32⟩
  | .hbm, ⟨66, _⟩ => ⟨S55296x2048, .f32⟩
  | _, _ => ⟨S55296, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_1 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_2 : Ref sig .tc := ⟨.hbm, 59, rfl⟩
abbrev main_v34 : Ref sig .tc := ⟨.hbm, 60, rfl⟩
abbrev main_v35 : Ref sig .tc := ⟨.hbm, 61, rfl⟩
abbrev main_cst_3 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v36 : Ref sig .tc := ⟨.hbm, 66, rfl⟩

abbrev nD : Nat := 1
abbrev τ : Topo := Topo.v7x

variable {F : FTy → Type} [FloatOps F]
-- ==== Proof.Softmax.lean ====
/- The mathematics of the attention's softmax over the extended reals, free of any program: a softmax does not depend on
   the number subtracted from its scores, nor on its scores being taken in one pass or chunk by chunk. -/
module

public import Idealize.ShloMosaic.Lib.Pointwise

@[expose] public section

noncomputable section

namespace Cert.Softmax

open Idealize.ShloMosaic

/-- A non-negative real number is distributed over a finite sum of extended reals. -/
theorem mul_sum {ι : Type} (S : Finset ι) (c : ℝ) (hc : 0 ≤ c) (f : ι → EReal) :
    (c : EReal) * ∑ j ∈ S, f j = ∑ j ∈ S, (c : EReal) * f j := by
  classical
  induction S using Finset.induction_on with
  | empty => simp
  | insert a S ha ih =>
    rw [Finset.sum_insert ha, Finset.sum_insert ha, ← ih]
    exact EReal.left_distrib_of_nonneg_of_ne_top (EReal.coe_nonneg.2 hc) (EReal.coe_ne_top c) _ _

/-- A finite sum of real numbers, taken in the extended reals, is the real sum. -/
theorem coe_sum {ι : Type} (S : Finset ι) (f : ι → ℝ) :
    ∑ j ∈ S, (f j : EReal) = ((∑ j ∈ S, f j : ℝ) : EReal) := by
  classical
  induction S using Finset.induction_on with
  | empty => simp
  | insert a S ha ih => rw [Finset.sum_insert ha, Finset.sum_insert ha, ih, EReal.coe_add]

/-- A finite sum of products of real numbers is a real number. -/
theorem exists_dot {ι : Type} (S : Finset ι) (f g : ι → EReal) (hf : ∀ j, ∃ r : ℝ, f j = r) (hg : ∀ j, ∃ r : ℝ, g j = r) :
    ∃ r : ℝ, ∑ j ∈ S, f j * g j = r := by
  choose f' hf' using hf
  choose g' hg' using hg
  exact ⟨∑ j ∈ S, f' j * g' j, by rw [← coe_sum]; exact Finset.sum_congr rfl fun j _ => by rw [hf', hg', EReal.coe_mul]⟩

/-- The maximum of a real number, or of minus infinity, and a list of at least one real number is a real number. -/
theorem exists_max {n : ℕ} (hn : 0 < n) (b : EReal) (hb : b ≠ ⊤) (f : Fin n → ℝ) :
    ∃ r : ℝ, Finset.univ.fold max b (fun j => (f j : EReal)) = r := by
  classical
  have key : ∀ S : Finset (Fin n), S.fold max b (fun j => (f j : EReal)) ≠ ⊤ ∧ (S.Nonempty → S.fold max b (fun j => (f j : EReal)) ≠ ⊥) := by
    intro S
    induction S using Finset.induction_on with
    | empty => exact ⟨by simpa using hb, fun h => absurd h (by simp)⟩
    | insert a S ha ih =>
      rw [Finset.fold_insert ha]
      refine ⟨?_, fun _ => ?_⟩
      · intro h
        rcases max_eq_iff.1 h with h | h
        · exact EReal.coe_ne_top _ h.1
        · exact ih.1 h.1
      · intro h
        exact EReal.coe_ne_bot _ (le_bot_iff.1 (h ▸ le_max_left (f a : EReal) _))
  obtain ⟨h1, h2⟩ := key Finset.univ
  exact ⟨_, (EReal.coe_toReal h1 (h2 ⟨⟨0, hn⟩, Finset.mem_univ _⟩)).symm⟩

/-- The weight of a score `s` when `m` is subtracted: two to the power `s - m`. -/
theorem exp2_sub (s m : ℝ) : Ideal.exp2 ((s : EReal) - (m : EReal)) = (((2 : ℝ) ^ (s - m) : ℝ) : EReal) := by
  rw [← EReal.coe_sub, Ideal.exp2_coe]; rfl

/-- The weight of a score with the natural exponential. -/
theorem exp_sub (s m : ℝ) : Ideal.exp ((s : EReal) - (m : EReal)) = ((Real.exp (s - m) : ℝ) : EReal) := by
  rw [← EReal.coe_sub, Ideal.exp_coe]

/-- Against minus infinity the weight of what came before is zero. -/
theorem exp2_bot_sub (m : ℝ) : Ideal.exp2 (⊥ - (m : EReal)) = 0 := by
  rw [EReal.bot_sub, Ideal.exp2_bot]

/-- Moving a weighted sum from the subtracted number `m` to `m'` is one multiplication. -/
theorem rescale {ι : Type} (S : Finset ι) (s : ι → ℝ) (v : ι → EReal) (m m' : ℝ) :
    (((2 : ℝ) ^ (m - m') : ℝ) : EReal) * ∑ j ∈ S, (((2 : ℝ) ^ (s j - m) : ℝ) : EReal) * v j
      = ∑ j ∈ S, (((2 : ℝ) ^ (s j - m') : ℝ) : EReal) * v j := by
  rw [mul_sum S _ (by positivity)]
  refine Finset.sum_congr rfl fun j _ => ?_
  rw [← mul_assoc, ← EReal.coe_mul, ← Real.rpow_add (by norm_num)]
  congr 3
  ring

/-- The same for the sum of the weights alone. -/
theorem rescale_one {ι : Type} (S : Finset ι) (s : ι → ℝ) (m m' : ℝ) :
    (((2 : ℝ) ^ (m - m') : ℝ) : EReal) * ∑ j ∈ S, (((2 : ℝ) ^ (s j - m) : ℝ) : EReal)
      = ∑ j ∈ S, (((2 : ℝ) ^ (s j - m') : ℝ) : EReal) := by
  simpa using rescale S s (fun _ => 1) m m'

/-- Softmax in base two with any subtracted number, normalised at the end, is softmax in base e with any subtracted
    number, every weight normalised. -/
theorem normalise {ι : Type} [Fintype ι] [Nonempty ι] (s t : ι → ℝ) (ht : ∀ j, t j = s j * Real.log 2) (v : ι → EReal) (m M : ℝ) :
    Ideal.div (∑ j, (((2 : ℝ) ^ (s j - m) : ℝ) : EReal) * v j) (∑ j, (((2 : ℝ) ^ (s j - m) : ℝ) : EReal))
      = ∑ j, v j * Ideal.div ((Real.exp (t j - M) : ℝ) : EReal) (∑ i, ((Real.exp (t i - M) : ℝ) : EReal)) := by
  have hw : ∀ j, (2 : ℝ) ^ (s j - m) = Real.exp (t j - M) * Real.exp (M - m * Real.log 2) := fun j => by
    rw [Real.rpow_def_of_pos (by norm_num), ← Real.exp_add, ht]
    congr 1
    ring
  have hC : (0 : ℝ) < Real.exp (M - m * Real.log 2) := Real.exp_pos _
  have hZ : (0 : ℝ) < ∑ i, Real.exp (t i - M) := Finset.sum_pos (fun i _ => Real.exp_pos _) Finset.univ_nonempty
  have hL : ∑ j, (2 : ℝ) ^ (s j - m) = (∑ i, Real.exp (t i - M)) * Real.exp (M - m * Real.log 2) := by
    rw [Finset.sum_mul]; exact Finset.sum_congr rfl fun j _ => hw j
  rw [coe_sum, coe_sum, hL, Ideal.div_coe (mul_pos hZ hC).ne', mul_comm,
    mul_sum _ _ (by positivity)]
  refine Finset.sum_congr rfl fun j _ => ?_
  rw [Ideal.div_coe hZ.ne', ← mul_assoc, ← EReal.coe_mul, ← EReal.coe_mul, mul_comm (v j), hw]
  congr 2
  field_simp

/-- The word that a reduction by maximum starts from is minus infinity. -/
theorem low : Ideal.ofBits .f32 0xFF800000#32 = ⊥ := rfl

/-- A maximum taken on the host along the last of five axes, read at an index. -/
theorem host_max {n0 n1 n2 n3 n4 : ℕ} {u : Shape} (x : (⟨5, ![n0, n1, n2, n3, n4]⟩ : Shape).Idx → EReal) (init : u.Idx → EReal)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce (FloatOps.maximumf (F := Ideal) (φ := .f32)) x init h hu (ix4 a b c d)
      = Finset.univ.fold max (init (Shape.Idx.first hu)) fun l : Fin n4 => x (ix5 a b c d l) := by
  rw [Host.reduce_eq_fold, h.fold_fiber_r5_a4]
  rfl

end Cert.Softmax

end
-- ==== Proof.Body.lean ====
/- What one grid point of the attention computes, as arithmetic on one row: the payloads of the two key chunks read at an
   index, and their composition as one softmax over both chunks. -/
module

public import proofs.«01_k».proof.Proof.Softmax
public import proofs.«01_k».proof.Proof.Gen.KernelIdeal.Skeleton

@[expose] public section

set_option maxRecDepth 16384

noncomputable section

namespace Cert.KernelIdeal.Value

open Cert.KernelIdeal Cert.KernelIdeal.Gen Idealize.ShloMosaic Idealize.ShloMosaic.TcCoe Cert.Softmax

section
variable (Q K V : FVec Ideal S1024x128 .bf16) (M L A : FVec Ideal S1024x128 .f32)

/-- A score of the first chunk: the product of a query row and a key row. -/
theorem score1_at (r j : Fin 1024) : k0_pay15 (F := Ideal) Q K (ix2 r j) = ∑ d : Fin 128, Q (ix2 r d) * K (ix2 j d) := by
  pointwise! [k0_pay15]

/-- A score of the second chunk. -/
theorem score2_at (r j : Fin 1024) : k0_pay23 (F := Ideal) Q K (ix2 r j) = ∑ d : Fin 128, Q (ix2 r d) * K (ix2 j d) := by
  pointwise! [k0_pay23]

/-- The running maximum after the first chunk. -/
theorem max1_at (r : Fin 1024) (l : Fin 128) : k0_pay16 (F := Ideal) Q K M (ix2 r l)
    = max (M (ix2 r l)) (Finset.univ.fold max (Ideal.ofBits .f32 0xFF800000#32) fun j : Fin 1024 => k0_pay15 (F := Ideal) Q K (ix2 r j)) := by
  pointwise! [k0_pay16]

/-- The running maximum after the second chunk. -/
theorem max2_at (r : Fin 1024) (l : Fin 128) : k0_pay25 (F := Ideal) Q K M (ix2 r l)
    = max (M (ix2 r l)) (Finset.univ.fold max (Ideal.ofBits .f32 0xFF800000#32) fun j : Fin 1024 => k0_pay23 (F := Ideal) Q K (ix2 r j)) := by
  pointwise! [k0_pay25]

/-- The weight of a score of the first chunk, where every lane of the running maximum holds `μ`. -/
theorem weight1_at (r j : Fin 1024) (μ : EReal) (h : ∀ l : Fin 128, k0_pay16 (F := Ideal) Q K M (ix2 r l) = μ) :
    k0_pay18 (F := Ideal) Q K M (ix2 r j) = Ideal.exp2 (k0_pay15 (F := Ideal) Q K (ix2 r j) - μ) := by
  pointwise [k0_pay18]
  simp only [h, dite_eq_ite, ite_self]
  rfl

/-- The weight of a score of the second chunk. -/
theorem weight2_at (r j : Fin 1024) (μ : EReal) (h : ∀ l : Fin 128, k0_pay25 (F := Ideal) Q K M (ix2 r l) = μ) :
    k0_pay27 (F := Ideal) Q K M (ix2 r j) = Ideal.exp2 (k0_pay23 (F := Ideal) Q K (ix2 r j) - μ) := by
  pointwise [k0_pay27]
  simp only [h, dite_eq_ite, ite_self]
  rfl

/-- The factor of what came before the first chunk. -/
theorem factor1_at (r : Fin 1024) (l : Fin 128) : k0_pay17 (F := Ideal) Q K M (ix2 r l)
    = Ideal.exp2 (M (ix2 r l) - k0_pay16 (F := Ideal) Q K M (ix2 r l)) := by
  pointwise! [k0_pay17]

/-- The factor of what came before the second chunk. -/
theorem factor2_at (r : Fin 1024) (l : Fin 128) : k0_pay26 (F := Ideal) Q K M (ix2 r l)
    = Ideal.exp2 (M (ix2 r l) - k0_pay25 (F := Ideal) Q K M (ix2 r l)) := by
  pointwise! [k0_pay26]

/-- The sum of the weights after the first chunk. -/
theorem norm1_at (r : Fin 1024) (l : Fin 128) : k0_pay19 (F := Ideal) Q K M L (ix2 r l)
    = k0_pay17 (F := Ideal) Q K M (ix2 r l) * L (ix2 r l) + ∑ j : Fin 1024, k0_pay18 (F := Ideal) Q K M (ix2 r j) := by
  pointwise! [k0_pay19]

/-- The sum of the weights after the second chunk. -/
theorem norm2_at (r : Fin 1024) (l : Fin 128) : k0_pay28 (F := Ideal) Q K M L (ix2 r l)
    = k0_pay26 (F := Ideal) Q K M (ix2 r l) * L (ix2 r l) + ∑ j : Fin 1024, k0_pay27 (F := Ideal) Q K M (ix2 r j) := by
  pointwise! [k0_pay28]

/-- The weighted sum of the values after the first chunk. -/
theorem acc1_at (r : Fin 1024) (l : Fin 128) : k0_pay20 (F := Ideal) Q K V M A (ix2 r l)
    = k0_pay17 (F := Ideal) Q K M (ix2 r l) * A (ix2 r l) + ∑ j : Fin 1024, k0_pay18 (F := Ideal) Q K M (ix2 r j) * V (ix2 j l) := by
  pointwise! [k0_pay20]

/-- The weighted sum of the values after the second chunk. -/
theorem acc2_at (r : Fin 1024) (l : Fin 128) (B : FVec Ideal S1024x128 .f32) (W : FVec Ideal S1024x1024 .f32) : k0_pay1 (F := Ideal) V B W A (ix2 r l)
    = B (ix2 r l) * A (ix2 r l) + ∑ j : Fin 1024, W (ix2 r j) * V (ix2 j l) := by
  pointwise! [k0_pay1]

/-- The values of the second chunk are read as they are. -/
theorem copy1_at : k0_pay24 (F := Ideal) V = V := by funext i; pointwise! [k0_pay24]
/-- The running maximum is stored as it is. -/
theorem copy2_at : k0_pay22 (F := Ideal) M = M := by funext i; pointwise! [k0_pay22]
/-- The weighted sum is stored as it is. -/
theorem copy3_at : k0_pay21 (F := Ideal) M = M := by funext i; pointwise! [k0_pay21]
/-- The sum of the weights starts at zero. -/
theorem zero1_at (i : S1024x128.Idx) : k0_pay13 (F := Ideal) i = (0 : EReal) := by pointwise! [k0_pay13]
/-- The weighted sum starts at zero. -/
theorem zero2_at (i : S1024x128.Idx) : k0_pay14 (F := Ideal) (FloatOps.ofBits FTy.f32 0#32) i = (0 : EReal) := by pointwise! [k0_pay14]
/-- The running maximum starts at minus infinity. -/
theorem mask_at (i : S1024x128.Idx) : k0_pay12 (F := Ideal) i = (⊥ : EReal) := by pointwise! [k0_pay12]

end
end Cert.KernelIdeal.Value

end
-- ==== Proof.Row.lean ====
/- The two key chunks of one grid point together: its result at a row and a column is the softmax of that row's scores,
   applied to the column of values. -/
module

public import proofs.«01_k».proof.Proof.Body

@[expose] public section

set_option maxRecDepth 16384

noncomputable section

namespace Cert.KernelIdeal.Value

open Cert.KernelIdeal Cert.KernelIdeal.Gen Idealize.ShloMosaic Idealize.ShloMosaic.TcCoe Cert.Softmax

/-- What a grid point computes from its queries, its two chunks of keys and its two chunks of values. -/
def flash (Q K1 K2 V1 V2 : FVec Ideal S1024x128 .bf16) : FVec Ideal S1024x128 .f32 :=
  k0_pay3 (F := Ideal) (k0_pay1 (F := Ideal) (k0_pay24 (F := Ideal) V2) (k0_pay26 (F := Ideal) Q K2 (k0_pay22 (F := Ideal) (k0_pay16 (F := Ideal) Q K1 (k0_pay12 (F := Ideal)))))
      (k0_pay27 (F := Ideal) Q K2 (k0_pay22 (F := Ideal) (k0_pay16 (F := Ideal) Q K1 (k0_pay12 (F := Ideal)))))
      (k0_pay21 (F := Ideal) (k0_pay20 (F := Ideal) Q K1 V1 (k0_pay12 (F := Ideal)) (k0_pay14 (F := Ideal) (FloatOps.ofBits FTy.f32 0#32)))))
    (k0_pay28 (F := Ideal) Q K2 (k0_pay22 (F := Ideal) (k0_pay16 (F := Ideal) Q K1 (k0_pay12 (F := Ideal)))) (k0_pay19 (F := Ideal) Q K1 (k0_pay12 (F := Ideal)) (k0_pay13 (F := Ideal))))

/-- Row `r` and column `l` of that result, for scores that are real numbers: with `s1` and `s2` the scores of the two
    chunks there is a number `m` with which the result is the quotient of the two weighted sums over both chunks. -/
theorem flash_at (Q K1 K2 V1 V2 : FVec Ideal S1024x128 .bf16) (r : Fin 1024) (l : Fin 128) (s1 s2 : Fin 1024 → ℝ)
    (h1 : ∀ j : Fin 1024, ∑ d : Fin 128, Q (ix2 r d) * K1 (ix2 j d) = (s1 j : EReal))
    (h2 : ∀ j : Fin 1024, ∑ d : Fin 128, Q (ix2 r d) * K2 (ix2 j d) = (s2 j : EReal)) :
    ∃ m : ℝ, flash Q K1 K2 V1 V2 (ix2 r l)
      = Ideal.div (∑ j, (((2 : ℝ) ^ (s1 j - m) : ℝ) : EReal) * V1 (ix2 j l) + ∑ j, (((2 : ℝ) ^ (s2 j - m) : ℝ) : EReal) * V2 (ix2 j l))
        (∑ j, (((2 : ℝ) ^ (s1 j - m) : ℝ) : EReal) + ∑ j, (((2 : ℝ) ^ (s2 j - m) : ℝ) : EReal)) := by
  have g1 : ∀ j, k0_pay15 (F := Ideal) Q K1 (ix2 r j) = (s1 j : EReal) := fun j => (score1_at Q K1 r j).trans (h1 j)
  have g2 : ∀ j, k0_pay23 (F := Ideal) Q K2 (ix2 r j) = (s2 j : EReal) := fun j => (score2_at Q K2 r j).trans (h2 j)
  obtain ⟨a, ha⟩ := exists_max (n := 1024) (by norm_num) ⊥ bot_ne_top s1
  obtain ⟨b, hb⟩ := exists_max (n := 1024) (by norm_num) ⊥ bot_ne_top s2
  have e1 : ∀ l : Fin 128, k0_pay16 (F := Ideal) Q K1 (k0_pay12 (F := Ideal)) (ix2 r l) = (a : EReal) := fun l => by
    rw [max1_at, low, mask_at]
    simp only [g1]
    rw [ha]
    exact max_eq_right bot_le
  have e2 : ∀ l : Fin 128, k0_pay25 (F := Ideal) Q K2 (k0_pay16 (F := Ideal) Q K1 (k0_pay12 (F := Ideal))) (ix2 r l) = ((max a b : ℝ) : EReal) := fun l => by
    rw [max2_at, low, e1]
    simp only [g2]
    rw [hb]
    exact (EReal.coe_strictMono.monotone.map_max (a := a) (b := b)).symm
  refine ⟨max a b, ?_⟩
  have w1 : ∀ j, k0_pay18 (F := Ideal) Q K1 (k0_pay12 (F := Ideal)) (ix2 r j) = (((2 : ℝ) ^ (s1 j - a) : ℝ) : EReal) := fun j => by
    rw [weight1_at _ _ _ _ _ _ e1, g1, exp2_sub]
  have w2 : ∀ j, k0_pay27 (F := Ideal) Q K2 (k0_pay16 (F := Ideal) Q K1 (k0_pay12 (F := Ideal))) (ix2 r j) = (((2 : ℝ) ^ (s2 j - max a b) : ℝ) : EReal) := fun j => by
    rw [weight2_at _ _ _ _ _ _ e2, g2, exp2_sub]
  have f1 : k0_pay17 (F := Ideal) Q K1 (k0_pay12 (F := Ideal)) (ix2 r l) = (0 : EReal) := by
    rw [factor1_at, e1, mask_at, exp2_bot_sub]
  have f2 : k0_pay26 (F := Ideal) Q K2 (k0_pay16 (F := Ideal) Q K1 (k0_pay12 (F := Ideal))) (ix2 r l) = (((2 : ℝ) ^ (a - max a b) : ℝ) : EReal) := by
    rw [factor2_at, e1, e2, exp2_sub]
  unfold flash
  rw [copy1_at, copy2_at, copy3_at]
  have hdiv : ∀ x y : FVec Ideal S1024x128 .f32, k0_pay3 (F := Ideal) x y (ix2 r l) = Ideal.div (x (ix2 r l)) (y (ix2 r l)) := fun x y => by
    pointwise! [k0_pay3]
  rw [hdiv, acc2_at, norm2_at, acc1_at, norm1_at, f1, f2]
  simp only [w1, w2]
  rw [zero1_at, zero2_at, mul_zero, zero_add, zero_add, rescale, rescale_one]

end Cert.KernelIdeal.Value

end
-- ==== Proof.Block.lean ====
/- What the kernel's grid point leaves in its output block: the blocks' reads as reads of the argument arrays, the query
   heads stacked as rows, and the four heads' columns of the output. -/
module

public import proofs.«01_k».proof.Proof.Row
public import proofs.«01_k».proof.Proof.Gen.KernelIdeal.Value
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The queries. -/
abbrev argQ (c : Dev nD) : FVec Ideal S49152x1024 .f32 := m ((c : Thread nD τ).loc main_arg0)
/-- The keys. -/
abbrev argK (c : Dev nD) : FVec Ideal S49152x256 .f32 := m ((c : Thread nD τ).loc main_arg1)
/-- The values. -/
abbrev argV (c : Dev nD) : FVec Ideal S49152x256 .f32 := m ((c : Thread nD τ).loc main_arg2)
/-- The array whose other columns are kept. -/
abbrev argM (c : Dev nD) : FVec Ideal S49152x2048 .bf16 := m ((c : Thread nD τ).loc main_arg3)

/-- Every window's block index at every grid point. -/
theorem idx : ∀ t : Fin cfg0.N, win0_0.index t = ![t.val / 16 * 8 + t.val % 8, t.val / 8 % 2] ∧ win0_1.index t = ![t.val / 16, t.val / 8 % 2]
    ∧ win0_2.index t = ![t.val / 16, t.val / 8 % 2] ∧ win0_3.index t = ![t.val / 16 * 8 + t.val % 8, t.val / 8 % 2] :=
  (by decide +kernel : ∀ t : Fin grid0.N, _)

/-- There are 256 grid points. -/
theorem point_lt (t : Fin cfg0.N) : t.val < 256 := t.isLt

/-- The kernel's scale of the queries. -/
def scale2 : EReal := Ideal.div 1 (Ideal.sqrt (Ideal.ofBits .f32 0x43000000#32) * Ideal.log (Ideal.ofBits .f32 0x40000000#32))

/-- A block of queries, read at an index. -/
theorem query_at (c : Dev nD) (t : Fin cfg0.N) (a : Fin 256) (b : Fin 512) :
    iblk m c 0 t (ix2 a b) = argQ m c (ix2 ⟨(t.val / 16 * 8 + t.val % 8) * 256 + a.val, by have := point_lt t; omega⟩ ⟨t.val / 8 % 2 * 512 + b.val, by omega⟩) * scale2 := by
  blk_simp [iblk]
  entry_read
  pointwise [scale2]
  refine Ideal.mul_congr ?_ rfl
  blk_ext [idx t]

/-- A block of keys, read at an index. -/
theorem key_at (c : Dev nD) (t : Fin cfg0.N) (a : Fin 2048) (b : Fin 128) :
    iblk m c 1 t (ix2 a b) = argK m c (ix2 ⟨t.val / 16 * 2048 + a.val, by have := point_lt t; omega⟩ ⟨t.val / 8 % 2 * 128 + b.val, by omega⟩) := by
  blk_simp [iblk]
  entry_read
  pointwise
  blk_ext [idx t]

/-- A block of values, read at an index. -/
theorem value_at (c : Dev nD) (t : Fin cfg0.N) (a : Fin 2048) (b : Fin 128) :
    iblk m c 2 t (ix2 a b) = argV m c (ix2 ⟨t.val / 16 * 2048 + a.val, by have := point_lt t; omega⟩ ⟨t.val / 8 % 2 * 128 + b.val, by omega⟩) := by
  blk_simp [iblk]
  entry_read
  pointwise
  blk_ext [idx t]

/-- Head 0's queries are copied as they are. -/
theorem query0_at (X : FVec Ideal S256x128 .bf16) (i : S256x128.Idx) : k0_pay8 (F := Ideal) X i = X i := by pointwise! [k0_pay8]
/-- Head 1's queries are copied as they are. -/
theorem query1_at (X : FVec Ideal S256x128 .bf16) (i : S256x128.Idx) : k0_pay9 (F := Ideal) X i = X i := by pointwise! [k0_pay9]
/-- Head 2's queries are copied as they are. -/
theorem query2_at (X : FVec Ideal S256x128 .bf16) (i : S256x128.Idx) : k0_pay10 (F := Ideal) X i = X i := by pointwise! [k0_pay10]
/-- Head 3's queries are copied as they are. -/
theorem query3_at (X : FVec Ideal S256x128 .bf16) (i : S256x128.Idx) : k0_pay11 (F := Ideal) X i = X i := by pointwise! [k0_pay11]
/-- The four heads' outputs are the four stretches of 256 rows of the quotient. -/
theorem head0_at (X Y : FVec Ideal S1024x128 .f32) (a : Fin 256) (d : Fin 128) :
    k0_pay4 (F := Ideal) X Y (ix2 a d) = k0_pay3 (F := Ideal) X Y (ix2 ⟨a.val, by omega⟩ d) := by pointwise! [k0_pay4]
/-- The second head. -/
theorem head1_at (X Y : FVec Ideal S1024x128 .f32) (a : Fin 256) (d : Fin 128) :
    k0_pay5 (F := Ideal) X Y (ix2 a d) = k0_pay3 (F := Ideal) X Y (ix2 ⟨256 + a.val, by omega⟩ d) := by pointwise! [k0_pay5]
/-- The third head. -/
theorem head2_at (X Y : FVec Ideal S1024x128 .f32) (a : Fin 256) (d : Fin 128) :
    k0_pay6 (F := Ideal) X Y (ix2 a d) = k0_pay3 (F := Ideal) X Y (ix2 ⟨512 + a.val, by omega⟩ d) := by pointwise! [k0_pay6]
/-- The fourth head. -/
theorem head3_at (X Y : FVec Ideal S1024x128 .f32) (a : Fin 256) (d : Fin 128) :
    k0_pay7 (F := Ideal) X Y (ix2 a d) = k0_pay3 (F := Ideal) X Y (ix2 ⟨768 + a.val, by omega⟩ d) := by pointwise! [k0_pay7]

/-- What a grid point leaves in its output block at row `a` and column `b`: the head `b / 128` of query `a`. -/
theorem outs_at (c : Dev nD) (t : Fin cfg0.N) :
    ∃ Q K1 K2 V1 V2 : FVec Ideal S1024x128 .bf16,
      (∀ r : Fin 1024, ∀ d : Fin 128, Q (ix2 r d) = iblk m c 0 t (ix2 ⟨r.val % 256, by omega⟩ ⟨r.val / 256 * 128 + d.val, by omega⟩))
      ∧ (∀ j : Fin 1024, ∀ d : Fin 128, K1 (ix2 j d) = iblk m c 1 t (ix2 ⟨j.val, by omega⟩ d))
      ∧ (∀ j : Fin 1024, ∀ d : Fin 128, K2 (ix2 j d) = iblk m c 1 t (ix2 ⟨1024 + j.val, by omega⟩ d))
      ∧ (∀ j : Fin 1024, ∀ d : Fin 128, V1 (ix2 j d) = iblk m c 2 t (ix2 ⟨j.val, by omega⟩ d))
      ∧ (∀ j : Fin 1024, ∀ d : Fin 128, V2 (ix2 j d) = iblk m c 2 t (ix2 ⟨1024 + j.val, by omega⟩ d))
      ∧ ∀ (a : Fin 256) (b : Fin 512), outsAt0 m c t (ix2 a b) = flash Q K1 K2 V1 V2 (ix2 ⟨b.val / 128 * 256 + a.val, by omega⟩ ⟨b.val % 128, by omega⟩) := by
  unfold outsAt0
  frame_out
  generalize hQ : (View.whole cc0_scratch0).readCov (Val := Elt Ideal) _ _ = QS
  generalize hK1 : View.ld (iblk m c 1 t) (Rect.unit ![0, 0] ![1024, 128] k0_part2_skel._proof_2) = K1
  generalize hK2 : View.ld (iblk m c 1 t) (Rect.unit ![1024, 0] ![1024, 128] k0_part3_skel._proof_1) = K2
  generalize hV1 : View.ld (iblk m c 2 t) (Rect.unit ![0, 0] ![1024, 128] k0_part2_skel._proof_2) = V1
  generalize hV2 : View.ld (iblk m c 2 t) (Rect.unit ![1024, 0] ![1024, 128] k0_part3_skel._proof_1) = V2
  refine ⟨QS, K1, K2, V1, V2, ?_, ?_, ?_, ?_, ?_, ?_⟩
  · intro r d
    rw [← hQ, View.readCov_eq_canon']
    canon_tiles x h
    · idx_vars x
      pointwise at h0 h1
      refine (query3_at _ _).trans ?_
      pointwise
      exact congrArg (iblk m c 0 t) ((ix2_inj _ _ _ _).2 ⟨Fin.ext (by simp only; omega), Fin.ext (by simp only; omega)⟩)
    · idx_vars x
      pointwise at h0 h1
      refine (query2_at _ _).trans ?_
      pointwise
      exact congrArg (iblk m c 0 t) ((ix2_inj _ _ _ _).2 ⟨Fin.ext (by simp only; omega), Fin.ext (by simp only; omega)⟩)
    · idx_vars x
      pointwise at h0 h1
      refine (query1_at _ _).trans ?_
      pointwise
      exact congrArg (iblk m c 0 t) ((ix2_inj _ _ _ _).2 ⟨Fin.ext (by simp only; omega), Fin.ext (by simp only; omega)⟩)
    · idx_vars x
      pointwise at h0 h1
      refine (query0_at _ _).trans ?_
      pointwise
      exact congrArg (iblk m c 0 t) ((ix2_inj _ _ _ _).2 ⟨Fin.ext (by simp only; omega), Fin.ext (by simp only; omega)⟩)
  · intro j d
    rw [← hK1]
    pointwise
  · intro j d
    rw [← hK2]
    pointwise
  · intro j d
    rw [← hV1]
    pointwise
  · intro j d
    rw [← hV2]
    pointwise
  · intro a b
    canon_tiles x h
    · idx_vars x
      pointwise at h0 h1
      exact (head3_at _ _ _ _).trans (congrArg (flash QS K1 K2 V1 V2) ((ix2_inj _ _ _ _).2 ⟨Fin.ext (by simp only; omega), Fin.ext (by simp only; omega)⟩))
    · idx_vars x
      pointwise at h0 h1
      exact (head2_at _ _ _ _).trans (congrArg (flash QS K1 K2 V1 V2) ((ix2_inj _ _ _ _).2 ⟨Fin.ext (by simp only; omega), Fin.ext (by simp only; omega)⟩))
    · idx_vars x
      pointwise at h0 h1
      exact (head1_at _ _ _ _).trans (congrArg (flash QS K1 K2 V1 V2) ((ix2_inj _ _ _ _).2 ⟨Fin.ext (by simp only; omega), Fin.ext (by simp only; omega)⟩))
    · idx_vars x
      pointwise at h0 h1
      exact (head0_at _ _ _ _).trans (congrArg (flash QS K1 K2 V1 V2) ((ix2_inj _ _ _ _).2 ⟨Fin.ext (by simp only; omega), Fin.ext (by simp only; omega)⟩))

end Cert.KernelIdeal.Value

end
-- ==== Proof.Reference.lean ====
/- The reference read at an index: at a row and a column that the attention fills, the softmax of one query row's scores
   applied to a column of values; elsewhere the merged argument. -/
module

public import proofs.«01_k».proof.Proof.Softmax
public import proofs.«01_k».proof.Proof.Gen.ReferenceIdeal.Run

@[expose] public section

set_option maxRecDepth 16384

noncomputable section

namespace Cert.ReferenceIdeal.Value

open Cert.ReferenceIdeal Cert.ReferenceIdeal.Gen Idealize.ShloMosaic Idealize.ShloMosaic.TcCoe Idealize.SL.Sem Cert.Softmax

variable (q : FVec Ideal S49152x1024 .f32) (k v : FVec Ideal S49152x256 .f32) (mg : FVec Ideal S49152x2048 .bf16)

/-- The scores of every query against every key. -/
def scores : FVec Ideal S16x2x4x2048x2048 .f32 :=
  mulf (transpose S16x2x4x2048x2048 [0, 1, 4, 3, 2] (Host.dotGeneral dot_S16x2048x2x128_S16x2048x2x4x128_S16x2x2048x2048x4_3_4_1_13_02_02 none (shapeCast _ (extractStridedSlice S32768x256 ![0, 0] k slices_S49152x256_S32768x256_0_0) shapeCasts_S32768x256_S16x2048x2x128) (shapeCast _ (extractStridedSlice S32768x1024 ![0, 0] q slices_S49152x1024_S32768x1024_0_0) shapeCasts_S32768x1024_S16x2048x2x4x128)) transposes_S16x2x2048x2048x4_S16x2x4x2048x2048_0_1_4_3_2) (broadcastInDim S16x2x4x2048x2048 ![] bcast_S_S16x2x4x2048x2048 (Host.divf (constant S_ .f32 0x3F800000#32) (Host.sqrt (constant S_ .f32 0x43000000#32))))

/-- The greatest score of a row, of at least one row. -/
def peak (s : FVec Ideal S16x2x4x2048x2048 .f32) : FVec Ideal S16x2x4x2048 .f32 :=
  Host.reduce FloatOps.maximumf s (constant S_ .f32 0xFF800000#32) reducesTo_S16x2x4x2048x2048_S16x2x4x2048_d4 h_S_

/-- The number subtracted from each row's scores: its greatest score, or minus infinity. -/
def top (s : FVec Ideal S16x2x4x2048x2048 .f32) : FVec Ideal S16x2x4x2048 .f32 :=
  maximumf (broadcastInDim S16x2x4x2048 ![] bcast_S_S16x2x4x2048 (constant S_ .f32 0xFF800000#32)) (peak s)

/-- The exponentials of scores less a number for each row. -/
def weights (s : FVec Ideal S16x2x4x2048x2048 .f32) (t : FVec Ideal S16x2x4x2048 .f32) : FVec Ideal S16x2x4x2048x2048 .f32 :=
  Host.exp (subf s (broadcastInDim S16x2x4x2048x2048 ![0, 1, 2, 3, 4] bcast_S16x2x4x2048x1_S16x2x4x2048x2048_0_1_2_3_4 (broadcastInDim S16x2x4x2048x1 ![0, 1, 2, 3] bcast_S16x2x4x2048_S16x2x4x2048x1_0_1_2_3 t)))

/-- Weights divided by their row's sum. -/
def normalised (w : FVec Ideal S16x2x4x2048x2048 .f32) : FVec Ideal S16x2x4x2048x2048 .f32 :=
  Host.divf w (broadcastInDim S16x2x4x2048x2048 ![0, 1, 2, 3, 4] bcast_S16x2x4x2048x1_S16x2x4x2048x2048_0_1_2_3_4 (broadcastInDim S16x2x4x2048x1 ![0, 1, 2, 3] bcast_S16x2x4x2048_S16x2x4x2048x1_0_1_2_3 (Host.reduceAdd w (constant S_ .f32 0x00000000#32) reducesTo_S16x2x4x2048x2048_S16x2x4x2048_d4 h_S_)))

/-- The values weighted by probabilities `p`, every head's columns beside the others'. -/
def mixed (p : FVec Ideal S16x2x4x2048x2048 .f32) : FVec Ideal S32768x1024 .bf16 :=
  truncf .bf16 (shapeCast S32768x1024 (transpose S16x2048x2x4x128 [0, 4, 1, 3, 2] (Host.dotGeneral dot_S16x2048x2x128_S16x2x4x2048x2048_S16x2x128x4x2048_1_4_3_23_02_01 none (shapeCast _ (extractStridedSlice S32768x256 ![0, 0] v slices_S49152x256_S32768x256_0_0) shapeCasts_S32768x256_S16x2048x2x128) p) transposes_S16x2x128x4x2048_S16x2048x2x4x128_0_4_1_3_2) shapeCasts_S16x2048x2x4x128_S32768x1024) bitsLt_bf16_f32

/-- The reference's result as one function of its arguments. -/
def REF : FVec Ideal S49152x2048 .bf16 :=
  Host.dynamicUpdateSlice mg (mixed v (normalised (weights (scores q k) (top (scores q k))))) (fun k => (((![constantI S_ 32 0#32, constantI S_ 32 0#32] : Fin 2 → (⟨S_, .i32⟩ : BufTy).Contents (Elt Ideal))) k (Shape.Idx.first h_S_)).toInt) updateFits_S49152x2048_S32768x1024

/-- That is what the generated run names. -/
theorem res_eq (m : (ℓ : Loc nD τ sig) → Buf (Elt Ideal) ℓ) (c : Dev nD) : res_out0 m c
    = REF (m ((c.tc : Thread nD τ).loc main_arg0)) (m ((c.tc : Thread nD τ).loc main_arg1)) (m ((c.tc : Thread nD τ).loc main_arg2)) (m ((c.tc : Thread nD τ).loc main_arg3)) := rfl

/-- The reference's scale. -/
def scale : EReal := Ideal.div 1 (Ideal.sqrt (Ideal.ofBits .f32 0x43000000#32))

/-- A score: the product of a query row and a key row, scaled. -/
theorem scores_at (b : Fin 16) (g : Fin 2) (h : Fin 4) (i j : Fin 2048) : scores q k (ix5 b g h i j)
    = (∑ d : Fin 128, k (ix2 ⟨b.val * 2048 + j.val, by omega⟩ ⟨g.val * 128 + d.val, by omega⟩) * q (ix2 ⟨b.val * 2048 + i.val, by omega⟩ ⟨g.val * 512 + h.val * 128 + d.val, by omega⟩)) * scale := by
  pointwise [scores, scale]

/-- A scalar constant at its index. -/
theorem const_at (b : BitVec 32) (i : S_.Idx) : (constant S_ .f32 b : FVec Ideal S_ .f32) i = Ideal.ofBits .f32 b := rfl

/-- The greatest score of a row. -/
theorem peak_at (s : FVec Ideal S16x2x4x2048x2048 .f32) (b : Fin 16) (g : Fin 2) (h : Fin 4) (i : Fin 2048) : peak s (ix4 b g h i)
    = Finset.univ.fold max (Ideal.ofBits .f32 0xFF800000#32) fun l : Fin 2048 => s (ix5 b g h i l) := by
  unfold peak
  rw [← const_at _ (Shape.Idx.first h_S_)]
  generalize (constant S_ .f32 0xFF800000#32 : FVec Ideal S_ .f32) = z
  exact host_max s z _ _ b g h i

/-- A constant against a table, the greater of the two, at a row. -/
theorem max_const_at (c : BitVec 32) (z : FVec Ideal S16x2x4x2048 .f32) (i : S16x2x4x2048.Idx) :
    maximumf (broadcastInDim S16x2x4x2048 ![] bcast_S_S16x2x4x2048 (constant S_ .f32 c)) z i = max (Ideal.ofBits .f32 c) (z i) := by
  pointwise

/-- The number subtracted, at a row. -/
theorem top_at (s : FVec Ideal S16x2x4x2048x2048 .f32) (b : Fin 16) (g : Fin 2) (h : Fin 4) (i : Fin 2048) : top s (ix4 b g h i)
    = max (Ideal.ofBits .f32 0xFF800000#32) (peak s (ix4 b g h i)) := by
  unfold top
  exact max_const_at _ _ _

/-- A weight. -/
theorem weights_at (s : FVec Ideal S16x2x4x2048x2048 .f32) (t : FVec Ideal S16x2x4x2048 .f32) (b : Fin 16) (g : Fin 2) (h : Fin 4) (i j : Fin 2048) : weights s t (ix5 b g h i j)
    = Ideal.exp (s (ix5 b g h i j) - t (ix4 b g h i)) := by
  pointwise [weights]

/-- A probability. -/
theorem normalised_at (w : FVec Ideal S16x2x4x2048x2048 .f32) (b : Fin 16) (g : Fin 2) (h : Fin 4) (i j : Fin 2048) : normalised w (ix5 b g h i j)
    = Ideal.div (w (ix5 b g h i j)) (∑ l : Fin 2048, w (ix5 b g h i l)) := by
  pointwise [normalised]

/-- An entry of the weighted values. -/
theorem mixed_at (p : FVec Ideal S16x2x4x2048x2048 .f32) (r : Fin 32768) (l : Fin 1024) : mixed v p (ix2 r l)
    = ∑ j : Fin 2048, v (ix2 ⟨r.val / 2048 * 2048 + j.val, by omega⟩ ⟨l.val / 512 * 128 + l.val % 128, by omega⟩) * p (ix5 ⟨r.val / 2048, by omega⟩ ⟨l.val / 512, by omega⟩ ⟨l.val / 128 % 4, by omega⟩ ⟨r.val % 2048, by omega⟩ j) := by
  pointwise [mixed]

/-- The result: the attention's entries in its rows and columns, the merged argument elsewhere. -/
theorem REF_at (r : Fin 49152) (l : Fin 2048) : REF q k v mg (ix2 r l)
    = if h : r.val < 32768 ∧ l.val < 1024 then mixed v (normalised (weights (scores q k) (top (scores q k)))) (ix2 ⟨r.val, h.1⟩ ⟨l.val, h.2⟩) else mg (ix2 r l) := by
  have e0 : Host.clampedStart S49152x2048 S32768x1024 rfl (fun k => BitVec.toInt ((![constantI S_ 32 0#32, constantI S_ 32 0#32] : Fin 2 → IVec S_ 32) k (Shape.Idx.first h_S_))) 0 = 0 := by rfl
  have e1 : Host.clampedStart S49152x2048 S32768x1024 rfl (fun k => BitVec.toInt ((![constantI S_ 32 0#32, constantI S_ 32 0#32] : Fin 2 → IVec S_ 32) k (Shape.Idx.first h_S_))) 1 = 0 := by rfl
  pointwise [REF, e0, e1]

/-- The attention's entry at row `r` and column `l`, where the row's scores are the real numbers `t`: for some number `M`
    the softmax with `M` subtracted, applied to the column of values. -/
theorem attention_at (r : Fin 32768) (l : Fin 1024) (t : Fin 2048 → ℝ)
    (ht : ∀ j : Fin 2048, (∑ d : Fin 128, k (ix2 ⟨r.val / 2048 * 2048 + j.val, by omega⟩ ⟨l.val / 512 * 128 + d.val, by omega⟩)
      * q (ix2 ⟨r.val / 2048 * 2048 + r.val % 2048, by omega⟩ ⟨l.val / 512 * 512 + l.val / 128 % 4 * 128 + d.val, by omega⟩)) * scale = (t j : EReal)) :
    ∃ M : ℝ, mixed v (normalised (weights (scores q k) (top (scores q k)))) (ix2 r l)
      = ∑ j : Fin 2048, v (ix2 ⟨r.val / 2048 * 2048 + j.val, by omega⟩ ⟨l.val / 512 * 128 + l.val % 128, by omega⟩)
          * Ideal.div ((Real.exp (t j - M) : ℝ) : EReal) (∑ i, ((Real.exp (t i - M) : ℝ) : EReal)) := by
  have hs : ∀ j, scores q k (ix5 ⟨r.val / 2048, by omega⟩ ⟨l.val / 512, by omega⟩ ⟨l.val / 128 % 4, by omega⟩ ⟨r.val % 2048, by omega⟩ j) = (t j : EReal) :=
    fun j => (scores_at q k _ _ _ _ j).trans (ht j)
  obtain ⟨M, hM⟩ := exists_max (n := 2048) (by norm_num) ⊥ bot_ne_top t
  have hp : top (scores q k) (ix4 ⟨r.val / 2048, by omega⟩ ⟨l.val / 512, by omega⟩ ⟨l.val / 128 % 4, by omega⟩ ⟨r.val % 2048, by omega⟩) = (M : EReal) := by
    rw [top_at, peak_at, low]
    simp only [hs]
    rw [hM]
    exact max_eq_right bot_le
  refine ⟨M, ?_⟩
  rw [mixed_at]
  refine Finset.sum_congr rfl fun j _ => ?_
  refine Ideal.mul_congr rfl ?_
  rw [normalised_at]
  simp only [weights_at, hs, hp, exp_sub]

end Cert.ReferenceIdeal.Value

end
-- ==== Proof.Equation.lean ====
/- What a grid point leaves in its output block is the reference's result there: the scale of the queries, the queries'
   and keys' products as real numbers, and the two softmaxes brought together. -/
module

public import proofs.«01_k».proof.Proof.Block
public import proofs.«01_k».proof.Proof.Reference

@[expose] public section

set_option maxRecDepth 16384

noncomputable section

namespace Cert.KernelIdeal.Value

open Cert.KernelIdeal Cert.KernelIdeal.Gen Idealize.ShloMosaic Idealize.ShloMosaic.TcCoe Idealize.SL.Sem

/-- The pattern of the number 128. -/
theorem width : Ideal.ofBits .f32 0x43000000#32 = ((128 : ℝ) : EReal) := by
  simp [Ideal.ofBits, Ideal.ieee, -EReal.coe_mul]; norm_num

/-- The pattern of the number 2. -/
theorem base : Ideal.ofBits .f32 0x40000000#32 = ((2 : ℝ) : EReal) := by
  simp [Ideal.ofBits, Ideal.ieee, -EReal.coe_mul]; norm_num

/-- The square root of 128. -/
theorem root : Ideal.sqrt (Ideal.ofBits .f32 0x43000000#32) = ((Real.sqrt 128 : ℝ) : EReal) := by
  rw [width, Ideal.sqrt_coe, if_neg (by norm_num)]

/-- The reference's scale is one over the square root of 128. -/
theorem scale_ref : Cert.ReferenceIdeal.Value.scale = ((1 / Real.sqrt 128 : ℝ) : EReal) := by
  unfold Cert.ReferenceIdeal.Value.scale
  rw [root, Ideal.div_coe (by positivity), one_mul]

/-- The kernel's scale is the reference's over the logarithm of 2. -/
theorem scale_kernel : scale2 = ((1 / (Real.sqrt 128 * Real.log 2) : ℝ) : EReal) := by
  unfold scale2
  rw [root, base, Ideal.log_coe, if_neg (by norm_num), ← EReal.coe_mul,
    Ideal.div_coe (mul_ne_zero (by positivity) (Real.log_pos (by norm_num)).ne'), one_mul]

/-- The kernel's score as a real number. -/
theorem score_kernel {n : ℕ} (q k : Fin n → EReal) (q' k' : Fin n → ℝ) (hq : ∀ d, q d = q' d) (hk : ∀ d, k d = k' d) :
    ∑ d, (q d * scale2) * k d = (((∑ d, q' d * k' d) * (1 / (Real.sqrt 128 * Real.log 2)) : ℝ) : EReal) := by
  rw [Finset.sum_mul, ← Cert.Softmax.coe_sum]
  refine Finset.sum_congr rfl fun d _ => ?_
  rw [hq, hk, scale_kernel, ← EReal.coe_mul, ← EReal.coe_mul]
  congr 1
  ring

/-- The reference's score is the kernel's times the logarithm of 2. -/
theorem score_ref {n : ℕ} (q k : Fin n → EReal) (q' k' : Fin n → ℝ) (hq : ∀ d, q d = q' d) (hk : ∀ d, k d = k' d) :
    (∑ d, k d * q d) * Cert.ReferenceIdeal.Value.scale
      = (((∑ d, q' d * k' d) * (1 / (Real.sqrt 128 * Real.log 2)) * Real.log 2 : ℝ) : EReal) := by
  have h : ∑ d, k d * q d = ((∑ d, q' d * k' d : ℝ) : EReal) := by
    rw [← Cert.Softmax.coe_sum]
    refine Finset.sum_congr rfl fun d _ => ?_
    rw [hq, hk, ← EReal.coe_mul, mul_comm]
  have hl : Real.log 2 ≠ 0 := (Real.log_pos (by norm_num)).ne'
  have hs : Real.sqrt 128 ≠ 0 := by positivity
  rw [h, scale_ref, ← EReal.coe_mul]
  congr 1
  field_simp

variable (m : (ℓ : Loc nD τ sig) → Buf (Elt Ideal) ℓ)

/-- With real queries and keys, what a grid point leaves in its output block is the reference's result there. -/
theorem point (c : Dev nD) (hq : ∀ i, ∃ x : ℝ, argQ m c i = x) (hk : ∀ i, ∃ x : ℝ, argK m c i = x) (t : Fin cfg0.N)
    (a : Fin 256) (b : Fin 512) :
    outsAt0 m c t (ix2 a b) = Cert.ReferenceIdeal.Value.REF (argQ m c) (argK m c) (argV m c) (argM m c)
      (ix2 ⟨(t.val / 16 * 8 + t.val % 8) * 256 + a.val, by have := point_lt t; omega⟩ ⟨t.val / 8 % 2 * 512 + b.val, by omega⟩) := by
  have ht := point_lt t
  choose q' hq' using hq
  choose k' hk' using hk
  let S : Fin 2048 → ℝ := fun j => (∑ d : Fin 128, q' (ix2 ⟨(t.val / 16 * 8 + t.val % 8) * 256 + a.val, by omega⟩ ⟨t.val / 8 % 2 * 512 + (b.val / 128 * 128 + d.val), by omega⟩)
      * k' (ix2 ⟨t.val / 16 * 2048 + j.val, by omega⟩ ⟨t.val / 8 % 2 * 128 + d.val, by omega⟩)) * (1 / (Real.sqrt 128 * Real.log 2))
  obtain ⟨Q, K1, K2, V1, V2, hQ, hK1, hK2, hV1, hV2, ho⟩ := outs_at m c t
  have key : ∀ (j : Fin 2048) , ∑ d : Fin 128, Q (ix2 ⟨b.val / 128 * 256 + a.val, by omega⟩ d) * iblk m c 1 t (ix2 j d) = (S j : EReal) := fun j => by
    refine Eq.trans (Finset.sum_congr rfl fun d _ => ?_) (score_kernel (n := 128)
      (fun d => argQ m c (ix2 ⟨(t.val / 16 * 8 + t.val % 8) * 256 + a.val, by omega⟩ ⟨t.val / 8 % 2 * 512 + (b.val / 128 * 128 + d.val), by omega⟩))
      (fun d => argK m c (ix2 ⟨t.val / 16 * 2048 + j.val, by omega⟩ ⟨t.val / 8 % 2 * 128 + d.val, by omega⟩)) _ _ (fun d => hq' _) (fun d => hk' _))
    rw [hQ, query_at, key_at]
    refine Ideal.mul_congr (Ideal.mul_congr (congrArg (argQ m c) ((ix2_inj _ _ _ _).2 ⟨Fin.ext (by simp only; omega), Fin.ext (by simp only; omega)⟩)) rfl) rfl
  obtain ⟨M, hM⟩ := flash_at Q K1 K2 V1 V2 ⟨b.val / 128 * 256 + a.val, by omega⟩ ⟨b.val % 128, by omega⟩
    (fun j => S ⟨j.val, by omega⟩) (fun j => S ⟨1024 + j.val, by omega⟩)
    (fun j => by simp only [hK1]; exact key _) (fun j => by simp only [hK2]; exact key _)
  rw [ho, hM, Cert.ReferenceIdeal.Value.REF_at, dif_pos ⟨by simp only; omega, by simp only; omega⟩]
  obtain ⟨M', hM'⟩ := Cert.ReferenceIdeal.Value.attention_at (argQ m c) (argK m c) (argV m c)
    ⟨(t.val / 16 * 8 + t.val % 8) * 256 + a.val, by omega⟩ ⟨t.val / 8 % 2 * 512 + b.val, by omega⟩ (fun j => S j * Real.log 2) (fun j => by
      refine Eq.trans ?_ (score_ref (n := 128)
        (fun d => argQ m c (ix2 ⟨(t.val / 16 * 8 + t.val % 8) * 256 + a.val, by omega⟩ ⟨t.val / 8 % 2 * 512 + (b.val / 128 * 128 + d.val), by omega⟩))
        (fun d => argK m c (ix2 ⟨t.val / 16 * 2048 + j.val, by omega⟩ ⟨t.val / 8 % 2 * 128 + d.val, by omega⟩)) _ _ (fun d => hq' _) (fun d => hk' _))
      refine Ideal.mul_congr (Finset.sum_congr rfl fun d _ => Ideal.mul_congr ?_ ?_) rfl
      · exact congrArg (argK m c) ((ix2_inj _ _ _ _).2 ⟨Fin.ext (by simp only; omega), Fin.ext (by simp only; omega)⟩)
      · exact congrArg (argQ m c) ((ix2_inj _ _ _ _).2 ⟨Fin.ext (by simp only; omega), Fin.ext (by simp only; omega)⟩))
  refine Eq.trans ?_ hM'.symm
  rw [← Cert.Softmax.normalise S (fun j => S j * Real.log 2) (fun j => rfl) _ M M',
    Fin.sum_univ_two_halves 1024 1024 rfl, Fin.sum_univ_two_halves 1024 1024 rfl]
  have hv : ∀ (j : Fin 2048), iblk m c 2 t (ix2 j ⟨b.val % 128, by omega⟩) = argV m c (ix2 ⟨((t.val / 16 * 8 + t.val % 8) * 256 + a.val) / 2048 * 2048 + j.val, by omega⟩
      ⟨(t.val / 8 % 2 * 512 + b.val) / 512 * 128 + (t.val / 8 % 2 * 512 + b.val) % 128, by omega⟩) := fun j => by
    rw [value_at]
    exact congrArg (argV m c) ((ix2_inj _ _ _ _).2 ⟨Fin.ext (by simp only; omega), Fin.ext (by simp only; omega)⟩)
  simp only [hV1, hV2]
  simp only [hv]

/-- The array the kernel leaves: the reference's result in the attention's rows and columns, the merged argument elsewhere. -/
theorem final (c : Dev nD) (hq : ∀ i, ∃ x : ℝ, argQ m c i = x) (hk : ∀ i, ∃ x : ℝ, argK m c i = x) :
    (dats m 0 c).arrAt 3 cfg0.N = Cert.ReferenceIdeal.Value.REF (argQ m c) (argK m c) (argV m c) (argM m c) := by
  have h : (dats m 0 c).arrAt 3 cfg0.N = fun i => if (i 0 : ℕ) < 32768 ∧ (i 1 : ℕ) < 1024 then
      Cert.ReferenceIdeal.Value.REF (argQ m c) (argK m c) (argV m c) (argM m c) i else (dats m 0 c).A 3 i := by
    refine (dats m 0 c).arrAt_eq_of_coversWhere 3 _ (fun β => β 0 < 128 ∧ β 1 < 2) (by decide +kernel) (fun t hf y => ?_)
      (fun j => by blk_simp [Pipeline.Window.cell_apply]; omega)
    blk_simp
    rw [after0_3]
    idx_vars y
    refine (point m c hq hk t _ _).trans ?_
    blk_ext [idx t]
  rw [h]
  funext i
  idx_vars i
  show (if (i0 : ℕ) < 32768 ∧ (i1 : ℕ) < 1024 then _ else _) = _
  split
  · rfl
  · rename_i hn
    rw [Cert.ReferenceIdeal.Value.REF_at, dif_neg hn]
    rw [A_eq]
    show V m c main_v9 (ix2 i0 i1) = _
    entry_read
    rfl

end Cert.KernelIdeal.Value

end
-- ==== Proof.Finite.lean ====
/- The precondition of the value claim read at an element: every query and every key is a real number. -/
module

public import proofs.«01_k».proof.Pre_finite_qk
public import Idealize.ShloMosaic.Lib.ReduceAll
public import Idealize.ShloMosaic.Lib.Pointwise

@[expose] public section

set_option maxRecDepth 16384

noncomputable section

namespace Cert.Pre_finite_qk

open Idealize.ShloMosaic

/-- The shape facts the precondition's operations take. -/
theorem facts : Facts where
  bcast_S_S49152x1024 := by decide
  reducesTo_S49152x1024_S_d0_1 := by decide
  h_S_ := by decide
  bcast_S_S49152x256 := by decide
  reducesTo_S49152x256_S_d0_1 := by decide

/-- The pattern of plus infinity. -/
theorem high : Ideal.ofBits .f32 0x7F800000#32 = ⊤ := rfl

/-- A number whose absolute value is below plus infinity is real. -/
theorem real_of_lt (x : EReal) (h : max x (-x) < ⊤) : ∃ r : ℝ, x = r := by
  induction x using EReal.rec with
  | bot => simp at h
  | coe r => exact ⟨r, rfl⟩
  | top => simp at h

/-- The comparison the precondition makes, at an element. -/
theorem real_at {s : Shape} (hb : (⟨0, ![]⟩ : Shape).BroadcastsInDim s (![] : Fin 0 → Fin s.rank)) (x : FVec Ideal s .f32) (c : BitVec 32)
    (hc : Ideal.ofBits .f32 c = ⊤) (i : s.Idx)
    (h : cmpf .olt (Host.absf x) (broadcastInDim s ![] hb (constant (F := Ideal) ⟨0, ![]⟩ .f32 c)) i = 1#1) : ∃ r : ℝ, x i = r := by
  have h' : BitVec.ofBool (decide (max (x i) (-(x i)) < Ideal.ofBits .f32 c)) = 1#1 := h
  rw [hc] at h'
  refine real_of_lt _ ?_
  by_contra hn
  rw [decide_eq_false hn] at h'
  exact absurd h' (by decide)

/-- Under the precondition every query and every key is a real number. -/
theorem reals [Facts] (q : FVec Ideal S49152x1024 .f32) (k v : FVec Ideal S49152x256 .f32) (g : FVec Ideal S49152x2048 .bf16)
    (h : fn (F := Ideal) q k v g = fun _ => 1#1) : (∀ i, ∃ r : ℝ, q i = r) ∧ ∀ i, ∃ r : ℝ, k i = r := by
  have : Subsingleton S_.Idx := ⟨fun a b => funext fun j => Fin.elim0 j⟩
  have e := congrFun h (fun j => Fin.elim0 j)
  dsimp only [fn] at e
  have e' := IntOp.andi_eq_one.1 e
  exact ⟨fun i => real_at _ _ _ high i (Host.reduce_andi_all _ _ _ _ _ e'.1 i), fun i => real_at _ _ _ high i (Host.reduce_andi_all _ _ _ _ _ e'.2 i)⟩

end Cert.Pre_finite_qk

end
-- ==== Proof.Experts.lean ====
/- The reference of the expert layer read at an index: at a row of a used tile, every expert's output for the row's token
   times the row's weight for that expert, summed over the experts; elsewhere zero. -/
module

public import proofs.«01_k».proof.Proof.Gen.Reference2Ideal.Run
public import Idealize.ShloMosaic.Lib.Pointwise
public import Idealize.ShloMosaic.Lib.Routing.Ops

@[expose] public section

set_option maxRecDepth 16384

noncomputable section

namespace Cert.Reference2Ideal.Value

open Cert.Reference2Ideal Cert.Reference2Ideal.Gen Idealize.ShloMosaic Idealize.ShloMosaic.TcCoe Idealize.SL.Sem

variable (src : IVec S55296 32) (ea eb rows : IVec S216 32) (hn : FVec Ideal S49152x2176 .f32) (w1 w3 : FVec Ideal S16x2048x512 .f32) (w2 : FVec Ideal S16x512x2048 .f32)

/-- Every row's token, in one column. -/
def ids : IVec S55296x1 32 :=
  broadcastInDim S55296x1 ![0] bcast_S55296_S55296x1_0 (select (cmpi .slt src (broadcastInDim S55296 ![] bcast_S_S55296 (constantI S_ 32 0#32))) (addi src (broadcastInDim S55296 ![] bcast_S_S55296 (constantI S_ 32 49152#32))) src)

/-- Every row's token's entries. -/
def picked : FVec Ideal S55296x2176 .f32 :=
  Host.gather gather_S49152x2176_S55296x1_S55296x2176_1_0_n_n_0_1_12176 hn (ids src)

/-- A table of tiles, read at every row. -/
def perRow (x : IVec S216 32) : IVec S55296x1 32 :=
  broadcastInDim S55296x1 ![0] bcast_S55296_S55296x1_0 (shapeCast _ (broadcastInDim S216x256 ![0] bcast_S216_S216x256_0 x) shapeCasts_S216x256_S55296)

/-- A row's products with every expert's first or third weights. -/
def up (p : FVec Ideal S55296x2176 .f32) (w : FVec Ideal S16x2048x512 .f32) : FVec Ideal S55296x16x512 .f32 :=
  Host.dotGeneral dot_S55296x2048_S16x2048x512_S55296x16x512_1_1_0_02_n_n none (extractStridedSlice S55296x2048 ![0, 0] p slices_S55296x2176_S55296x2048_0_0) w

/-- A number times its logistic. -/
def gate (z : FVec Ideal S55296x16x512 .f32) : FVec Ideal S55296x16x512 .f32 :=
  mulf z (Host.divf (broadcastInDim S55296x16x512 ![] bcast_S_S55296x16x512 (constant S_ .f32 0x3F800000#32)) (addf (broadcastInDim S55296x16x512 ![] bcast_S_S55296x16x512 (constant S_ .f32 0x3F800000#32)) (Host.exp (Host.negf z))))

/-- Every expert's output for every row. -/
def down (a : FVec Ideal S55296x16x512 .f32) : FVec Ideal S55296x16x2048 .f32 :=
  transpose S55296x16x2048 [2, 0, 1] (Host.dotGeneral dot_S16x512x2048_S55296x16x512_S16x2048x55296_1_2_2_0_0_1 none w2 a) transposes_S16x2048x55296_S55296x16x2048_2_0_1

/-- Which of a row's two experts an expert is. -/
def hot (xs : IVec S55296x2 32) : FVec Ideal S55296x2x16 .f32 :=
  uitofp .f32 (cmpi .eq (broadcastInDim S55296x2x16 ![0, 1, 2] bcast_S55296x2x1_S55296x2x16_0_1_2 (broadcastInDim S55296x2x1 ![0, 1] bcast_S55296x2_S55296x2x1_0_1 xs)) (broadcastInDim S55296x2x16 ![0, 1, 2] bcast_S1x1x16_S55296x2x16_0_1_2 (iotaInDim S1x1x16 32 2)))

/-- A row's two experts. -/
def pair (a b : IVec S55296x1 32) : IVec S55296x2 32 :=
  concatenate S55296x2 1 [⟨S55296x1, a⟩, ⟨S55296x1, b⟩] concatenates_S55296x1_S55296x1_S55296x2_d1

/-- A row's weight for every expert. -/
def share (o : FVec Ideal S55296x2x16 .f32) (p : FVec Ideal S55296x2176 .f32) : FVec Ideal S55296x16 .f32 :=
  Host.reduceAdd (mulf o (broadcastInDim S55296x2x16 ![0, 1, 2] bcast_S55296x2x1_S55296x2x16_0_1_2 (broadcastInDim S55296x2x1 ![0, 1] bcast_S55296x2_S55296x2x1_0_1 (extractStridedSlice S55296x2 ![0, 2048] p slices_S55296x2176_S55296x2_0_2048)))) (constant S_ .f32 0x00000000#32) reducesTo_S55296x2x16_S55296x16_d1 h_S_

/-- The experts' outputs, weighted and summed. -/
def total (y : FVec Ideal S55296x16x2048 .f32) (s : FVec Ideal S55296x16 .f32) : FVec Ideal S55296x2048 .f32 :=
  Host.reduceAdd (mulf y (broadcastInDim S55296x16x2048 ![0, 1, 2] bcast_S55296x16x1_S55296x16x2048_0_1_2 (broadcastInDim S55296x16x1 ![0, 1] bcast_S55296x16_S55296x16x1_0_1 s))) (constant S_ .f32 0x00000000#32) reducesTo_S55296x16x2048_S55296x2048_d1 h_S_

/-- The sums in the rows of used tiles, zero in the others. -/
def kept (r : IVec S55296x1 32) (y : FVec Ideal S55296x2048 .f32) : FVec Ideal S55296x2048 .f32 :=
  select (broadcastInDim S55296x2048 ![0, 1] bcast_S55296x1_S55296x2048_0_1 (cmpi .sgt r (broadcastInDim S55296x1 ![] bcast_S_S55296x1 (constantI S_ 32 0#32)))) y (broadcastInDim S55296x2048 ![] bcast_S_S55296x2048 (id (constant S_ .f32 0x00000000#32)))

/-- The reference's result as one function of its arguments. -/
def REF : FVec Ideal S55296x2048 .f32 :=
  kept (perRow rows) (total (down w2 (mulf (gate (up (picked src hn) w1)) (up (picked src hn) w3))) (share (hot (pair (perRow ea) (perRow eb))) (picked src hn)))

/-- That is what the generated run names. -/
theorem res_eq (m : (ℓ : Loc nD τ sig) → Buf (Elt Ideal) ℓ) (c : Dev nD) : res_out0 m c
    = REF (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := rfl

/-- The pattern of one. -/
theorem one_eq : Ideal.ofBits .f32 0x3F800000#32 = 1 := by
  simp [Ideal.ofBits, Ideal.ieee, -EReal.coe_mul]; norm_num

/-- The pattern of zero. -/
theorem zero_eq : Ideal.ofBits .f32 0x00000000#32 = 0 := by
  simp [Ideal.ofBits, Ideal.ieee]

/-- A bit as a number. -/
theorem bit_one : (FloatOps.uitofp (F := Ideal) .f32 (1#1 : BitVec 1) : EReal) = 1 := by
  show (((1#1 : BitVec 1).toNat : ℝ) : EReal) = 1
  simp
theorem bit_zero : (FloatOps.uitofp (F := Ideal) .f32 (0#1 : BitVec 1) : EReal) = 0 := by
  show (((0#1 : BitVec 1).toNat : ℝ) : EReal) = 0
  simp

theorem ids_at (t : Fin 55296) (h : (src (ix1 t)).toNat < 49152) : ids src (ix2 t 0) = src (ix1 t) := by
  have hn : ¬ IntOp.cmpi .slt (src (ix1 t)) 0#32 = 1#1 := fun e => by
    have e' := IntOp.cmpi_slt.1 e
    rw [BitVec.toInt_eq_toNat_of_lt (by omega)] at e'
    have z : (0#32 : BitVec 32).toInt = 0 := rfl
    rw [z] at e'
    omega
  pointwise [ids]
  rw [ValueIdx.eq_zero_of_ne_one hn]
  rfl

theorem picked_at (t : Fin 55296) (l : Fin 2176) (h : (src (ix1 t)).toNat < 49152) : picked src hn (ix2 t l) = hn (ix2 ⟨(src (ix1 t)).toNat, h⟩ l) := by
  unfold picked
  refine Routing.gather_row _ rfl rfl rfl rfl rfl _ _ t l _ ?_ (by norm_num)
  refine (ids_at src t h).trans ?_
  simp

theorem perRow_at (x : IVec S216 32) (t : Fin 55296) : perRow x (ix2 t 0) = x (ix1 ⟨t.val / 256, by omega⟩) := by
  pointwise [perRow]

theorem up_at (p : FVec Ideal S55296x2176 .f32) (w : FVec Ideal S16x2048x512 .f32) (t : Fin 55296) (e : Fin 16) (f : Fin 512) : up p w (ix3 t e f)
    = ∑ d : Fin 2048, p (ix2 t ⟨d.val, by omega⟩) * w (ix3 e d f) := by
  pointwise [up]

theorem gate_at (z : FVec Ideal S55296x16x512 .f32) (t : Fin 55296) (e : Fin 16) (f : Fin 512) : gate z (ix3 t e f)
    = z (ix3 t e f) * Ideal.logistic (z (ix3 t e f)) := by
  pointwise [gate, Ideal.logistic, one_eq]

theorem down_at (a : FVec Ideal S55296x16x512 .f32) (t : Fin 55296) (e : Fin 16) (j : Fin 2048) : down w2 a (ix3 t e j)
    = ∑ f : Fin 512, w2 (ix3 e f j) * a (ix3 t e f) := by
  pointwise [down]

theorem pair_at0 (a b : IVec S55296x1 32) (t : Fin 55296) : pair a b (ix2 t 0) = a (ix2 t 0) := by
  pointwise [pair]
theorem pair_at1 (a b : IVec S55296x1 32) (t : Fin 55296) : pair a b (ix2 t 1) = b (ix2 t 0) := by
  pointwise [pair]

theorem hot_at (xs : IVec S55296x2 32) (t : Fin 55296) (k : Fin 2) (e : Fin 16) : hot xs (ix3 t k e)
    = if (xs (ix2 t k)).toNat = e.val then 1 else 0 := by
  pointwise [hot]
  by_cases h : (xs (ix2 t k)).toNat = e.val
  · have h' : xs (ix2 t k) = BitVec.ofNat 32 e.val := by rw [← h]; simp
    rw [if_pos h, IntOp.cmpi_eq.2 h']
    exact bit_one
  · have h' : ¬ IntOp.cmpi .eq (xs (ix2 t k)) (BitVec.ofNat 32 e.val) = 1#1 := fun g => h (by
      rw [IntOp.cmpi_eq.1 g, BitVec.toNat_ofNat]; have := e.isLt; omega)
    rw [if_neg h, ValueIdx.eq_zero_of_ne_one h']
    exact bit_zero

theorem share_at (o : FVec Ideal S55296x2x16 .f32) (p : FVec Ideal S55296x2176 .f32) (t : Fin 55296) (e : Fin 16) : share o p (ix2 t e)
    = ∑ k : Fin 2, o (ix3 t k e) * p (ix2 t ⟨2048 + k.val, by omega⟩) := by
  pointwise [share]

theorem total_at (y : FVec Ideal S55296x16x2048 .f32) (s : FVec Ideal S55296x16 .f32) (t : Fin 55296) (j : Fin 2048) : total y s (ix2 t j)
    = ∑ e : Fin 16, y (ix3 t e j) * s (ix2 t e) := by
  pointwise [total]

theorem kept_at (r : IVec S55296x1 32) (y : FVec Ideal S55296x2048 .f32) (t : Fin 55296) (j : Fin 2048) : kept r y (ix2 t j)
    = if Scalar.cmpi .sgt (r (ix2 t 0)) 0#32 = 1#1 then y (ix2 t j) else 0 := by
  pointwise [kept]
  by_cases h : IntOp.cmpi .sgt (r (ix2 t 0)) 0#32 = 1#1
  · rw [if_pos (show Scalar.cmpi .sgt (r (ix2 t 0)) 0#32 = 1#1 from h), h]
    rfl
  · rw [if_neg (show ¬ Scalar.cmpi .sgt (r (ix2 t 0)) 0#32 = 1#1 from h), ValueIdx.eq_zero_of_ne_one h]
    exact zero_eq

/-- One expert's output for one token at a column. -/
def expert (tok : Fin 49152) (e : Fin 16) (j : Fin 2048) : EReal :=
  ∑ f : Fin 512, w2 (ix3 e f j) * ((∑ d : Fin 2048, hn (ix2 tok ⟨d.val, by omega⟩) * w1 (ix3 e d f)) * Ideal.logistic (∑ d : Fin 2048, hn (ix2 tok ⟨d.val, by omega⟩) * w1 (ix3 e d f))
    * ∑ d : Fin 2048, hn (ix2 tok ⟨d.val, by omega⟩) * w3 (ix3 e d f))

/-- A sum over the experts of outputs times weights, the weights those of two different experts. -/
theorem two_of (y : Fin 16 → EReal) (x0 x1 : EReal) (a b : Fin 16) (h : a ≠ b) :
    ∑ e : Fin 16, y e * (∑ k : Fin 2, (if (if k = 0 then a else b) = e then 1 else 0) * (if k = 0 then x0 else x1)) = y a * x0 + y b * x1 := by
  have key : ∀ e : Fin 16, y e * (∑ k : Fin 2, (if (if k = 0 then a else b) = e then 1 else 0) * (if k = 0 then x0 else x1))
      = (if a = e then y e * x0 else 0) + (if b = e then y e * x1 else 0) := by
    intro e
    rw [Fin.sum_univ_two]
    by_cases ha : a = e
    · have hb : b ≠ e := fun hb => h (ha.trans hb.symm)
      simp [ha, hb]
    · by_cases hb : b = e
      · simp [ha, hb]
      · simp [ha, hb]
  rw [Finset.sum_congr rfl fun e _ => key e, Finset.sum_add_distrib, Finset.sum_ite_eq, Finset.sum_ite_eq]
  simp

/-- The result at a row and a column. -/
theorem REF_at (t : Fin 55296) (j : Fin 2048) (hs : (src (ix1 t)).toNat < 49152) (ha : (ea (ix1 ⟨t.val / 256, by omega⟩)).toNat < 16)
    (hb : (eb (ix1 ⟨t.val / 256, by omega⟩)).toNat < 16) (hne : ea (ix1 ⟨t.val / 256, by omega⟩) ≠ eb (ix1 ⟨t.val / 256, by omega⟩)) :
    REF src ea eb rows hn w1 w3 w2 (ix2 t j)
      = if Scalar.cmpi .sgt (rows (ix1 ⟨t.val / 256, by omega⟩)) 0#32 = 1#1 then
          expert hn w1 w3 w2 ⟨(src (ix1 t)).toNat, hs⟩ ⟨_, ha⟩ j * hn (ix2 ⟨(src (ix1 t)).toNat, hs⟩ ⟨2048, by omega⟩)
            + expert hn w1 w3 w2 ⟨(src (ix1 t)).toNat, hs⟩ ⟨_, hb⟩ j * hn (ix2 ⟨(src (ix1 t)).toNat, hs⟩ ⟨2049, by omega⟩)
        else 0 := by
  unfold REF
  rw [kept_at, perRow_at, total_at]
  refine if_congr Iff.rfl ?_ rfl
  rw [← two_of (fun e => expert hn w1 w3 w2 ⟨(src (ix1 t)).toNat, hs⟩ e j) _ _ ⟨_, ha⟩ ⟨_, hb⟩ (fun e => hne (BitVec.eq_of_toNat_eq (Fin.mk.inj e)))]
  refine Finset.sum_congr rfl fun e _ => Ideal.mul_congr ?_ ?_
  · rw [down_at]
    unfold expert
    refine Finset.sum_congr rfl fun f _ => ?_
    have hu : ∀ w : FVec Ideal S16x2048x512 .f32, up (picked src hn) w (ix3 t e f) = ∑ d : Fin 2048, hn (ix2 ⟨(src (ix1 t)).toNat, hs⟩ ⟨d.val, by omega⟩) * w (ix3 e d f) :=
      fun w => (up_at _ w t e f).trans (Finset.sum_congr rfl fun d _ => by rw [picked_at src hn t _ hs])
    have hm : mulf (gate (up (picked src hn) w1)) (up (picked src hn) w3) (ix3 t e f) = gate (up (picked src hn) w1) (ix3 t e f) * up (picked src hn) w3 (ix3 t e f) := rfl
    rw [hm, gate_at, hu, hu]
  · rw [share_at]
    refine Finset.sum_congr rfl fun k _ => ?_
    rw [hot_at, picked_at src hn t _ hs]
    have h0 : pair (perRow ea) (perRow eb) (ix2 t 0) = ea (ix1 ⟨t.val / 256, by omega⟩) := (pair_at0 _ _ t).trans (perRow_at ea t)
    have h1 : pair (perRow ea) (perRow eb) (ix2 t 1) = eb (ix1 ⟨t.val / 256, by omega⟩) := (pair_at1 _ _ t).trans (perRow_at eb t)
    match k with
    | ⟨0, _⟩ =>
      refine Ideal.mul_congr ?_ rfl
      show (if (pair (perRow ea) (perRow eb) (ix2 t 0)).toNat = e.val then (1 : EReal) else 0) = if (⟨_, ha⟩ : Fin 16) = e then 1 else 0
      rw [h0]
      exact if_congr (Fin.ext_iff (a := (⟨_, ha⟩ : Fin 16)) (b := e)).symm rfl rfl
    | ⟨1, _⟩ =>
      refine Ideal.mul_congr ?_ rfl
      show (if (pair (perRow ea) (perRow eb) (ix2 t 1)).toNat = e.val then (1 : EReal) else 0) = if (⟨_, hb⟩ : Fin 16) = e then 1 else 0
      rw [h1]
      exact if_congr (Fin.ext_iff (a := (⟨_, hb⟩ : Fin 16)) (b := e)).symm rfl rfl

end Cert.Reference2Ideal.Value

end
-- ==== Proof.Routed.lean ====
/- The precondition of the expert kernel read at an element: every row's token exists, every tile's two experts exist and
   differ, and a tile that follows an unused one by three is unused. -/
module

public import proofs.«01_k».proof.Pre_routed
public import Idealize.ShloMosaic.Lib.Pipeline.FrameBody
public import Idealize.ShloMosaic.Lib.Tactic
public import Idealize.ShloMosaic.Lib.ReduceAll

@[expose] public section

set_option maxRecDepth 16384

noncomputable section

namespace Cert.Pre_routed

open Idealize.ShloMosaic

/-- The shape facts the precondition's operations take. -/
theorem facts : Facts where
  bcast_S_S55296 := by decide
  reducesTo_S55296_S_d0 := by decide
  h_S_ := by decide
  bcast_S_S216 := by decide
  reducesTo_S216_S_d0 := by decide
  slices_S216_S213_3 := by decide
  bcast_S_S213 := by decide
  slices_S216_S213_0 := by decide
  reducesTo_S213_S_d0 := by decide

/-- A word between zero and a bound, both as a signed number and as a natural number. -/
theorem toNat_lt (x : BitVec 32) (n : ℕ) (hn : n < 2 ^ 31) (h0 : IntOp.cmpi .sge x 0#32 = 1#1) (h1 : IntOp.cmpi .slt x (BitVec.ofNat 32 n) = 1#1) : x.toNat < n := by
  rw [IntOp.cmpi_sge] at h0
  rw [IntOp.cmpi_slt] at h1
  have e : (BitVec.ofNat 32 n).toInt = n := by
    rw [BitVec.toInt_eq_toNat_of_lt (by rw [BitVec.toNat_ofNat]; omega), BitVec.toNat_ofNat]; omega
  have z : (0#32 : BitVec 32).toInt = 0 := rfl
  rw [e] at h1
  rw [z] at h0
  rw [BitVec.toInt_eq_toNat_cond] at h0 h1
  have := x.isLt
  split at h0 <;> omega

/-- What the precondition says of the four tables. -/
theorem reads [Facts] {F : FTy → Type} [FloatOps F] (s : IVec S55296 32) (a b r : IVec S216 32) (h : FVec F S49152x2176 .f32)
    (w1 w3 : FVec F S16x2048x512 .f32) (w2 : FVec F S16x512x2048 .f32)
    (e : fn (F := F) s a b r h w1 w3 w2 = fun _ => 1#1) :
    (∀ i, (s i).toNat < 49152) ∧ (∀ i, (a i).toNat < 16) ∧ (∀ i, (b i).toNat < 16) ∧ (∀ i, a i ≠ b i)
      ∧ ∀ j : Fin 213, ¬ IntOp.cmpi .sgt (r fun | ⟨0, _⟩ => (⟨j.val + 3, by omega⟩ : Fin 216)) 0#32 = 1#1
          ∨ IntOp.cmpi .sgt (r fun | ⟨0, _⟩ => (⟨j.val, by omega⟩ : Fin 216)) 0#32 = 1#1 := by
  have : Subsingleton S_.Idx := ⟨fun a b => funext fun j => Fin.elim0 j⟩
  have e := congrFun e (fun j => Fin.elim0 j)
  dsimp only [fn, fn_part1] at e
  obtain ⟨e1, e2⟩ := IntOp.andi_eq_one.1 e
  obtain ⟨es, er⟩ := IntOp.andi_eq_one.1 e1
  obtain ⟨en, e3⟩ := IntOp.andi_eq_one.1 e2
  obtain ⟨ea, eb⟩ := IntOp.andi_eq_one.1 e3
  refine ⟨fun i => ?_, fun i => ?_, fun i => ?_, fun i => ?_, fun j => ?_⟩
  · obtain ⟨p, q⟩ := IntOp.andi_eq_one.1 (Host.reduce_andi_all _ _ _ _ _ es i)
    exact toNat_lt _ 49152 (by omega) p q
  · obtain ⟨p, q⟩ := IntOp.andi_eq_one.1 (Host.reduce_andi_all _ _ _ _ _ ea i)
    exact toNat_lt _ 16 (by omega) p q
  · obtain ⟨p, q⟩ := IntOp.andi_eq_one.1 (Host.reduce_andi_all _ _ _ _ _ eb i)
    exact toNat_lt _ 16 (by omega) p q
  · exact IntOp.cmpi_ne.1 (Host.reduce_andi_all _ _ _ _ _ en i)
  · rcases IntOp.ori_eq_one.1 (Host.reduce_andi_all _ _ _ _ _ er fun | ⟨0, _⟩ => (j : Fin 213)) with p | p
    · refine Or.inl fun hh => ?_
      have p' := IntOp.cmpi_sle.1 p
      have h' := IntOp.cmpi_sgt.1 hh
      refine absurd h' (not_lt.2 (le_trans (le_of_eq ?_) p'))
      refine congrArg (fun y => (r y).toInt) (funext fun k => ?_)
      match k with
      | ⟨0, _⟩ => exact Fin.ext (show j.val + 3 = 3 + j.val by omega)
    · refine Or.inr (Eq.trans ?_ p)
      refine congrArg (fun y => IntOp.cmpi .sgt (r y) 0#32) (funext fun k => ?_)
      match k with
      | ⟨0, _⟩ => exact Fin.ext (show j.val = 0 + j.val by omega)

end Cert.Pre_routed

end
-- ==== Proof.GatherIdeal.lean ====
module

public import Idealize.ShloMosaic.Lib.ValueLayout
import proofs.«01_k».proof.Proof.Gen.Kernel2Ideal.Launch
public import proofs.«01_k».proof.Proof.Gen.Kernel2Ideal.Skeleton
public import Idealize.ShloMosaic.Lib.Pipeline.FrameBody
public import Idealize.ShloMosaic.Lib.Batch
public import Idealize.ShloMosaic.Lib.Ring
public import Idealize.ShloMosaic.Lib.Tactic

/-! The row gathers of the expert kernel: one tile's 256 row copies on one semaphore, from its issue to its wait. -/

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

/-! ## The places -/

/-- A row of the tokens' array. -/
def srcRow (off : Fin 2 → ℕ) (h : ∀ a, off a + S1x2176.size a ≤ S49152x2176.size a) : Memref sig .tc .hbm S1x2176 .f32 :=
  (Memref.whole main_arg4).slice (Rect.unit (s := S49152x2176) off S1x2176.size h) (fun _ => rfl)
/-- A row of a slot of the kernel's buffer. -/
def dstRow (off : Fin 3 → ℕ) (h : ∀ a, off a + S1x1x2176.size a ≤ S4x256x2176.size a) : Memref sig .tc .vmem S1x2176 .f32 :=
  ((Memref.whole cc0_scratch0).slice (Rect.unit (s := S4x256x2176) off S1x1x2176.size h) (fun _ => rfl)).squeeze S1x2176 squeezes_S1x1x2176_S1x2176
/-- A slot's semaphore. -/
def cell (off : Fin 1 → ℕ) (h : ∀ a, off a + S1.size a ≤ S4.size a) : DmaSem sig :=
  ((cc0_scratch1.slice (Rect.unit (s := S4) off S1.size h)).squeeze S_ squeezes_S1_S_).sem

theorem src_inb (v : Fin 49152) : ∀ a, (![v.val, 0] : Fin 2 → ℕ) a + S1x2176.size a ≤ S49152x2176.size a := by
  have := v.isLt; intro a; fin_cases a
  · show v.val + 1 ≤ 49152; omega
  · show 0 + 2176 ≤ 2176; omega
theorem dst_inb (s : Fin 4) (r : Fin 256) : ∀ a, (![s.val, r.val, 0] : Fin 3 → ℕ) a + S1x1x2176.size a ≤ S4x256x2176.size a := by
  have := s.isLt; have := r.isLt; intro a; fin_cases a
  · show s.val + 1 ≤ 4; omega
  · show r.val + 1 ≤ 256; omega
  · show 0 + 2176 ≤ 2176; omega
theorem cell_inb (s : Fin 4) : ∀ a, (![s.val] : Fin 1 → ℕ) a + S1.size a ≤ S4.size a := by
  have := s.isLt; intro a; fin_cases a
  show s.val + 1 ≤ 4; omega

abbrev srcM (v : Fin 49152) := srcRow ![v.val, 0] (src_inb v)
abbrev dstM (s : Fin 4) (r : Fin 256) := dstRow ![s.val, r.val, 0] (dst_inb s r)
abbrev cellM (s : Fin 4) := cell ![s.val] (cell_inb s)

/-- A row's elements in the array, a row's elements in the buffer, a slot's. -/
abbrev srcSet (v : Fin 49152) : Finset S49152x2176.Idx := (Rect.unit (s := S49152x2176) ![v.val, 0] S1x2176.size (src_inb v)).set
abbrev dstSet (s : Fin 4) (r : Fin 256) : Finset S4x256x2176.Idx := (Rect.unit (s := S4x256x2176) ![s.val, r.val, 0] S1x1x2176.size (dst_inb s r)).set
def slotSet (s : Fin 4) : Finset S4x256x2176.Idx := Finset.univ.filter fun y => (y 0).val = s.val

theorem srcM_set (v : Fin 49152) : (srcM v).view.set = srcSet v := by unfold srcM srcRow; exact View.set_slice_whole _ _
theorem dstM_set (s : Fin 4) (r : Fin 256) : (dstM s r).view.set = dstSet s r := by
  unfold dstM dstRow; exact (View.set_reshape _ _).trans (View.set_slice_whole _ _)

theorem mem_dstSet (s : Fin 4) (r : Fin 256) (y : S4x256x2176.Idx) : y ∈ dstSet s r ↔ (y 0).val = s.val ∧ (y 1).val = r.val := by
  rw [Rect.mem_set_unit]
  have h2 : (y 2).val < 2176 := (y 2).isLt
  constructor
  · intro H; have a0 : s.val ≤ (y 0).val ∧ (y 0).val < s.val + 1 := H 0
    have a1 : r.val ≤ (y 1).val ∧ (y 1).val < r.val + 1 := H 1; omega
  · intro H a; fin_cases a
    · show s.val ≤ (y 0).val ∧ (y 0).val < s.val + 1; omega
    · show r.val ≤ (y 1).val ∧ (y 1).val < r.val + 1; omega
    · show 0 ≤ (y 2).val ∧ (y 2).val < 0 + 2176; omega
theorem dstSet_disjoint (s : Fin 4) : ∀ r r' : Fin 256, r ≠ r' → Disjoint (dstSet s r) (dstSet s r') := fun r r' hne => by
  rw [Finset.disjoint_left]; intro y hy hy'; rw [mem_dstSet] at hy hy'; exact hne (Fin.ext (by omega))
theorem dstSet_cover (s : Fin 4) : Finset.univ.biUnion (dstSet s) = slotSet s := by
  ext y; simp only [Finset.mem_biUnion, Finset.mem_univ, true_and, slotSet, Finset.mem_filter, mem_dstSet]
  exact ⟨fun ⟨_, h⟩ => h.1, fun h => ⟨y 1, h, rfl⟩⟩
theorem slotSet_disjoint : ∀ s s' : Fin 4, s ≠ s' → Disjoint (slotSet s) (slotSet s') := fun s s' hne => by
  rw [Finset.disjoint_left]; intro y hy hy'; simp only [slotSet, Finset.mem_filter, Finset.mem_univ, true_and] at hy hy'
  exact hne (Fin.ext (by omega))
theorem slotSet_cover : Finset.univ.biUnion slotSet = Finset.univ := by
  ext y; simp only [Finset.mem_biUnion, Finset.mem_univ, true_and, slotSet, Finset.mem_filter, iff_true]; exact ⟨y 0, rfl⟩

/-! ## What is held -/

section Held

variable (c : Dev nD) (H : S49152x2176.Idx → Elt F .f32) (g : ℕ → Fin 256 → Fin 49152)

/-- The array's index at row `v` and column `l`. -/
def hIdx (v : Fin 49152) (l : Fin 2176) : S49152x2176.Idx := fun a => match a with
  | ⟨0, _⟩ => v
  | ⟨1, _⟩ => l
/-- What a slot holds once tile `j`'s rows are in it. -/
def rowsOf (j : ℕ) : S4x256x2176.Idx → Elt F .f32 := fun y => H (hIdx (g j (y 1)) (y 2))

/-- The array's elements `S` at share `q`; the buffer's elements `S` at contents `f`. -/
def hPt (S : Finset S49152x2176.Idx) (q : PosShare TreeShare) : sProp 𝕄 :=
  ((c : Thread nD τ).loc main_arg4) ↦[S]{q} (H : Buf (Elt F) ((c : Thread nD τ).loc main_arg4))
def bPt (S : Finset S4x256x2176.Idx) (f : S4x256x2176.Idx → Elt F .f32) : sProp 𝕄 :=
  ((c : Thread nD τ).loc cc0_scratch0) ↦[S]{fullShare} (f : Buf (Elt F) ((c : Thread nD τ).loc cc0_scratch0))

instance hPt_storable (S : Finset S49152x2176.Idx) (q : PosShare TreeShare) : Storable (upEmb : UEmb _ 𝕄) (hPt c H S q) := by unfold hPt; infer_instance
instance bPt_storable (S : Finset S4x256x2176.Idx) (f : S4x256x2176.Idx → Elt F .f32) : Storable (upEmb : UEmb _ 𝕄) (bPt c S f) := by unfold bPt; infer_instance

/-- Slot `s`'s share of the array, and a row's share of that. -/
abbrev slotShare (s : Fin 4) : PosShare TreeShare := Transfers.shareTokN fullShare s.val
abbrev rowShare (s : Fin 4) (r : Fin 256) : PosShare TreeShare := Transfers.shareTokN (slotShare s) r.val

/-- One row's copy credits. -/
abbrev credit : ℕ := (cc0_scratch0 : Ref sig .tc).dmaCredit S1x2176 .f32

/-- What row `r` of tile `j` delivers into slot `s`. -/
def deliver (s : Fin 4) (j : ℕ) (r : Fin 256) : sProp 𝕄 :=
  iprop(bPt c (dstSet s r) (rowsOf H g j) ∗ hPt c H (srcSet (g j r)) (rowShare s r))
instance deliver_storable (s : Fin 4) (j : ℕ) (r : Fin 256) : Storable (upEmb : UEmb _ 𝕄) (deliver c H g s j r) := by unfold deliver; infer_instance

abbrev ECt : UEmb Counters 𝕄 := countersEmb (U := UD sig nD τ)

/-- Tile `j`'s copies on slot `s`, `k` issued and `u` units waited for. -/
def batch (s : Fin 4) (j k u : ℕ) : sProp 𝕄 :=
  Transfers.Batch (n := 256) (countersEmb (U := UD sig nD τ)) (c : Thread nD τ) (.dma (cellM s)) () credit (deliver c H g s j) k u

def cellPt (s : Fin 4) : sProp 𝕄 := semVal ((c : Thread nD τ), SemLoc.dma (cellM s)) 0

/-- A slot with nothing in flight. -/
def slotFree (s : Fin 4) : sProp 𝕄 :=
  iprop(cellPt c s ∗ (∃ f, bPt c (slotSet s) f) ∗ hPt c H Finset.univ (slotShare s))
/-- A slot in flight with tile `j`. -/
def slotFly (s : Fin 4) (j : ℕ) : sProp 𝕄 :=
  iprop(batch c H g s j 256 0 ∗ hPt c H Finset.univ (Transfers.shareDrop (slotShare s) 256)
    ∗ bigSep Finset.univ fun r => hPt c H (Finset.univ \ srcSet (g j r)) (rowShare s r))
/-- A slot whose first `k` rows of tile `j` are issued. -/
def rowState (s : Fin 4) (j k : ℕ) (r : Fin 256) : sProp 𝕄 :=
  if r.val < k then hPt c H (Finset.univ \ srcSet (g j r)) (rowShare s r)
  else iprop((∃ f, bPt c (dstSet s r) f) ∗ hPt c H Finset.univ (rowShare s r))
def issuing (s : Fin 4) (j k : ℕ) : sProp 𝕄 :=
  iprop(batch c H g s j k 0 ∗ hPt c H Finset.univ (Transfers.shareDrop (slotShare s) 256)
    ∗ bigSep Finset.univ (rowState c H g s j k))
/-- A slot holding tile `j`, nothing in flight. -/
def slotFull (s : Fin 4) (j : ℕ) : sProp 𝕄 :=
  iprop(cellPt c s ∗ bPt c (slotSet s) (rowsOf H g j) ∗ hPt c H Finset.univ (slotShare s))

theorem slotFull_free (s : Fin 4) (j : ℕ) : slotFull c H g s j ⊢ slotFree c H s := by
  unfold slotFull slotFree; iintro ⟨H1, H2, H3⟩
  isplitl [H1]; · iexact H1
  isplitl [H2]; · iexists _; iexact H2
  iexact H3

/-- The rows' shares of a slot's share, indexed by the rows. -/
theorem hPt_rows (q : PosShare TreeShare) :
    hPt c H Finset.univ q ⊣⊢ iprop(hPt c H Finset.univ (Transfers.shareDrop q 256)
      ∗ bigSep Finset.univ fun r : Fin 256 => hPt c H Finset.univ (Transfers.shareTokN q r.val)) := by
  have e : bigSep (Finset.range 256) (fun i => hPt c H Finset.univ (Transfers.shareTokN q i))
      = bigSep Finset.univ fun r : Fin 256 => hPt c H Finset.univ (Transfers.shareTokN q r.val) := by
    rw [← Ring.rangeSet_univ]
    exact (Ring.bigSep_rangeSet_eq_range (NB := 256) (lo := 0) (hi := 256) (Φ := fun r : Fin 256 => hPt c H Finset.univ (Transfers.shareTokN q r.val)) le_rfl
      (fun i => hPt c H Finset.univ (Transfers.shareTokN q i)) (fun k hk => by show hPt c H Finset.univ (Transfers.shareTokN q k) = hPt c H Finset.univ (Transfers.shareTokN q (0 + k)); rw [Nat.zero_add])).symm
  rw [← e]
  exact Transfers.pointsTo_toks_range q 256

/-- A slot is its rows. -/
theorem bPt_rows (s : Fin 4) (f : S4x256x2176.Idx → Elt F .f32) :
    bPt c (slotSet s) f = bigSep Finset.univ fun r => bPt c (dstSet s r) f :=
  Ring.pointsTo_sub_blocks (ℓ := (c : Thread nD τ).loc cc0_scratch0) (dstSet s) (dstSet_disjoint s) (slotSet s) (dstSet_cover s) (q := fullShare) f

/-- ISSUING BEGINS. -/
theorem issue_start (s : Fin 4) (j : ℕ) : slotFree c H s ⊢ |={Set.univ}=> issuing c H g s j 0 := by
  unfold slotFree issuing cellPt batch
  iintro ⟨Hc, ⟨%f, Hb⟩, Hh⟩
  imod (Transfers.batch_alloc' (Lvl := ℕ) (countersEmb (U := UD sig nD τ)) (c : Thread nD τ) () credit (deliver c H g s j) (sm := .dma (cellM s)) (E := Set.univ)) $$ Hc with HB
  imodintro
  isplitl [HB]; · iexact HB
  ihave Hh' := (hPt_rows c H (slotShare s)).1 $$ Hh
  icases Hh' with ⟨Hr, Ht⟩
  isplitl [Hr]; · iexact Hr
  have e : bigSep Finset.univ (rowState c H g s j 0)
      = iprop(bigSep Finset.univ (fun r => iprop(∃ f, bPt c (dstSet s r) f)) ∗ bigSep Finset.univ fun r : Fin 256 => hPt c H Finset.univ (rowShare s r)) :=
    BI.bigSep_sep _ _ _
  rw [e]
  isplitl [Hb]
  · ihave Hb' := (Entails.of_eq (bPt_rows c s f)) $$ Hb
    iapply (show (bigSep Finset.univ fun r => bPt c (dstSet s r) f) ⊢ bigSep Finset.univ fun r => (iprop(∃ f, bPt c (dstSet s r) f) : sProp 𝕄) from
      BI.bigSep_mono fun r _ => (show bPt c (dstSet s r) f ⊢ (iprop(∃ f, bPt c (dstSet s r) f) : sProp 𝕄) by iintro Hx; iexists f; iexact Hx))
    iexact Hb'
  · iexact Ht

/-- ISSUING ENDS. -/
theorem issue_done (s : Fin 4) (j : ℕ) : issuing c H g s j 256 ⊢ slotFly c H g s j := by
  unfold issuing slotFly
  have e : rowState c H g s j 256 = fun r => hPt c H (Finset.univ \ srcSet (g j r)) (rowShare s r) := by
    funext r; unfold rowState; rw [if_pos r.isLt]
  rw [e]

/-- WAITED FOR. -/
theorem collect (s : Fin 4) (j : ℕ) :
    iprop(cellPt c s ∗ bigSep Finset.univ (deliver c H g s j) ∗ hPt c H Finset.univ (Transfers.shareDrop (slotShare s) 256)
      ∗ bigSep Finset.univ fun r => hPt c H (Finset.univ \ srcSet (g j r)) (rowShare s r)) ⊢ slotFull c H g s j := by
  unfold slotFull
  have e : bigSep Finset.univ (deliver c H g s j)
      = iprop(bigSep Finset.univ (fun r => bPt c (dstSet s r) (rowsOf H g j)) ∗ bigSep Finset.univ fun r => hPt c H (srcSet (g j r)) (rowShare s r)) :=
    BI.bigSep_sep _ _ _
  rw [e]
  iintro ⟨Hc, ⟨Hb, Ha⟩, Hr, Hd⟩
  isplitl [Hc]; · iexact Hc
  isplitl [Hb]
  · iapply (Entails.of_eq (bPt_rows c s (rowsOf H g j)).symm)
    iexact Hb
  iapply (hPt_rows c H (slotShare s)).2
  isplitl [Hr]; · iexact Hr
  have e2 : iprop(bigSep Finset.univ (fun r => hPt c H (srcSet (g j r)) (rowShare s r)) ∗ bigSep Finset.univ fun r => hPt c H (Finset.univ \ srcSet (g j r)) (rowShare s r))
      ⊢ bigSep Finset.univ fun r : Fin 256 => hPt c H Finset.univ (rowShare s r) := by
    refine (Entails.of_eq (BI.bigSep_sep _ _ _).symm).trans (BI.bigSep_mono fun r _ => ?_)
    exact (pointsTo_split_subset (Finset.subset_univ _)).2
  iapply e2
  isplitl [Ha]; · iexact Ha
  iexact Hd

/-! ## One copy issued, one copy waited for -/

theorem dstM_emb (s : Fin 4) (r : Fin 256) (l : Fin 2176) : (dstM s r).view.emb (ValueIdx.ix2 (0 : Fin 1) l) = ValueIdx.ix3 s r l := by
  refine (congrArg (Rect.unit (s := S4x256x2176) ![s.val, r.val, 0] S1x1x2176.size (dst_inb s r)).emb
    (ValueIdx.reshapeEquiv_ix2_1ab (a := 1) (b := 2176) squeezes_S1x1x2176_S1x2176.numel_eq 0 l)).trans ?_
  funext d
  fin_cases d
  · exact Fin.ext (show s.val + 0 * 1 = s.val from by omega)
  · exact Fin.ext (show r.val + 0 * 1 = r.val from by omega)
  · exact Fin.ext ((Nat.zero_add _).trans (Nat.one_mul _))
theorem srcM_emb (v : Fin 49152) (l : Fin 2176) : (srcM v).view.emb (ValueIdx.ix2 (0 : Fin 1) l) = hIdx v l := by
  funext d
  fin_cases d
  · exact Fin.ext (show v.val + 0 * 1 = v.val from by omega)
  · exact Fin.ext ((Nat.zero_add _).trans (Nat.one_mul _))

/-- What a row's copy writes is the tile's row. -/
theorem copied (s : Fin 4) (j : ℕ) (r : Fin 256) (f : S4x256x2176.Idx → Elt F .f32) :
    ∀ y ∈ dstSet s r, (dstM s r).view.write (Elt F) f ((srcM (g j r)).view.read (Elt F) H) Finset.univ y = rowsOf H g j y := by
  have key : ∀ l : Fin 2176, (dstM s r).view.write (Elt F) f ((srcM (g j r)).view.read (Elt F) H) Finset.univ ((dstM s r).view.emb (ValueIdx.ix2 (0 : Fin 1) l)) = H (hIdx (g j r) l) :=
    fun l => (View.write_emb_of_mem (v := (dstM s r).view) f ((srcM (g j r)).view.read (Elt F) H) (Finset.mem_univ _)).trans
      (congrArg H (srcM_emb (g j r) l))
  intro y hy
  have hy' := (mem_dstSet s r y).mp hy
  have e : (dstM s r).view.emb (ValueIdx.ix2 (0 : Fin 1) (y 2)) = y := by
    refine (dstM_emb s r (y 2)).trans ?_
    funext d
    fin_cases d
    · exact Fin.ext hy'.1.symm
    · exact Fin.ext hy'.2.symm
    · rfl
  have h1 : y 1 = r := Fin.ext hy'.2
  have k := key (y 2)
  rw [e] at k
  refine k.trans ?_
  show _ = H (hIdx (g j (y 1)) (y 2))
  rw [h1]

theorem dst_amount (s : Fin 4) (r : Fin 256) : (dstM s r).view.amount (.dma (cellM s)) = credit := by
  unfold credit; rfl

/-- The delivered row is the tile's. -/
theorem deliver_intro (s : Fin 4) (j : ℕ) (r : Fin 256) (f : S4x256x2176.Idx → Elt F .f32) :
    iprop(((dstM s r).view.loc (c : Thread nD τ) ↦[dstSet s r]{fullShare}
        ((dstM s r).view.write (Elt F) f ((srcM (g j r)).view.read (Elt F) H) Finset.univ))
      ∗ ((srcM (g j r)).view.loc (c : Thread nD τ) ↦[(srcM (g j r)).view.set]{rowShare s r} H)) ⊢ (deliver c H g s j r : sProp 𝕄) := by
  unfold deliver hPt bPt
  iintro ⟨H1, H2⟩
  isplitl [H1]
  · iapply (Entails.of_eq (pointsTo_congr (copied H g s j r f)))
    iexact H1
  · rw [srcM_set]; iexact H2

theorem wp_issue (s : Fin 4) (j k : ℕ) (hk : k < 256) (so : Fin 2 → ℕ) (hs) (d : Fin 3 → ℕ) (hd) (co : Fin 1 → ℕ) (hc)
    (e1 : so = ![(g j ⟨k, hk⟩).val, 0]) (e2 : d = ![s.val, k, 0]) (e3 : co = ![s.val])
    {α : Type} {K : PUnit → Prog (TpuEff nD τ sig (Elt F) Λ₀ .tc) α} {Q : α → sProp 𝕄} :
    issuing c H g s j k ⊢ iprop((issuing c H g s j (k + 1) -∗ wp frame (wpE (defs₀ (F := F)) Variants.none (c : Thread nD τ) none) Set.univ (K ⟨⟩) Q)
      -∗ wp frame (wpE (defs₀ (F := F)) Variants.none (c : Thread nD τ) none) Set.univ
        (.op (.enqueueDma (srcRow so hs) (.here (dstRow d hd)) (.dma (cell co hc)) (View.wordExact_bits rfl) ((View.wordExact_bits rfl).reshape _ _) ⟨Or.inl rfl, trivial⟩) K) Q) := by
  subst e1 e2 e3
  have hrest : bigSep (Finset.univ.erase (⟨k, hk⟩ : Fin 256)) (rowState c H g s j (k + 1)) = bigSep (Finset.univ.erase ⟨k, hk⟩) (rowState c H g s j k) := by
    refine BI.bigSep_congr fun r hr => ?_
    have hne : r.val ≠ k := fun h => (Finset.mem_erase.mp hr).1 (Fin.ext h)
    unfold rowState
    by_cases h : r.val < k
    · rw [if_pos h, if_pos (by omega)]
    · rw [if_neg h, if_neg (by omega)]
  have e0 : (bigSep Finset.univ (rowState c H g s j k) : sProp 𝕄) = iprop(((∃ f, bPt c (dstSet s ⟨k, hk⟩) f) ∗ hPt c H Finset.univ (rowShare s ⟨k, hk⟩))
      ∗ bigSep (Finset.univ.erase ⟨k, hk⟩) (rowState c H g s j k)) := by
    rw [BI.bigSep_univ_split (Φ := rowState c H g s j k) ⟨k, hk⟩,
      show rowState c H g s j k ⟨k, hk⟩ = iprop((∃ f, bPt c (dstSet s ⟨k, hk⟩) f) ∗ hPt c H Finset.univ (rowShare s ⟨k, hk⟩)) from if_neg (Nat.lt_irrefl k)]; rfl
  have e1 : (bigSep Finset.univ (rowState c H g s j (k + 1)) : sProp 𝕄) = iprop(hPt c H (Finset.univ \ srcSet (g j ⟨k, hk⟩)) (rowShare s ⟨k, hk⟩)
      ∗ bigSep (Finset.univ.erase ⟨k, hk⟩) (rowState c H g s j k)) := by
    rw [BI.bigSep_univ_split (Φ := rowState c H g s j (k + 1)) ⟨k, hk⟩, hrest,
      show rowState c H g s j (k + 1) ⟨k, hk⟩ = hPt c H (Finset.univ \ srcSet (g j ⟨k, hk⟩)) (rowShare s ⟨k, hk⟩) from if_pos (Nat.lt_succ_self k)]; rfl
  unfold issuing
  rw [e0, e1]
  iintro ⟨HB, Hr, ⟨⟨⟨%f, Hd⟩, Hs⟩, Ho⟩⟩ Hk
  ihave Hs' := (show hPt c H Finset.univ (rowShare s ⟨k, hk⟩) ⊢ iprop(((srcM (g j ⟨k, hk⟩)).view.loc (c : Thread nD τ) ↦[(srcM (g j ⟨k, hk⟩)).view.set]{rowShare s ⟨k, hk⟩} H)
      ∗ hPt c H (Finset.univ \ srcSet (g j ⟨k, hk⟩)) (rowShare s ⟨k, hk⟩)) from by
    rw [srcM_set]; exact (pointsTo_split_subset (Finset.subset_univ _)).1) $$ Hs
  icases Hs' with ⟨Hs, Hc⟩
  unfold batch
  iapply (Transfers.wp_dmaBatch (src := srcM (g j ⟨k, hk⟩)) (dst := dstM s ⟨k, hk⟩) (countersEmb (U := UD sig nD τ)) Variants.none (c : Thread nD τ) none () credit (D := deliver c H g s j) (Sd := dstSet s ⟨k, hk⟩) (fd := f) (fs := H) (q := rowShare s ⟨k, hk⟩)
    (hN := dst_amount s ⟨k, hk⟩) (hSd := (dstM_set s ⟨k, hk⟩).le) (hj := hk) (hu := Nat.zero_le _) (hD := by rw [ReadAs.apply_same]; exact deliver_intro c H g s j ⟨k, hk⟩ f)) $$ [Hs Hd HB]
  · isplitl [Hs]; · iexact Hs
    isplitl [Hd]; · unfold bPt; iexact Hd
    iexact HB
  iintro HB
  iapply Hk
  isplitl [HB]; · iexact HB
  isplitl [Hr]; · iexact Hr
  isplitl [Hc]; · iexact Hc
  iexact Ho

end Held

end Cert.Kernel2Ideal.Gen

end
-- ==== Proof.Gather2Ideal.lean ====
module

public import proofs.«01_k».proof.Proof.GatherIdeal

/-! The loops that start and await a tile's row copies. -/

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

section Held

variable (c : Dev nD) (H : S49152x2176.Idx → Elt F .f32) (g : ℕ → Fin 256 → Fin 49152) (X : S55296.Idx → Elt F .i32) (q : PosShare TreeShare)

/-- The table of the rows' places. -/
def tPt : sProp 𝕄 := (Memref.whole main_arg0).view.loc (c : Thread nD τ) ↦[Finset.univ]{q} (X : Buf (Elt F) ((Memref.whole main_arg0).view.loc (c : Thread nD τ)))

/-- The table names the rows `g`. -/
def Names : Prop := ∀ j, j < 216 → ∀ (r : Fin 256) (y : S55296.Idx), (y 0).val = 256 * j + r.val → (X y).toNat = (g j r).val

theorem trip (hg : Names g X) (s : Fin 4) (j k : ℕ) (hj : j < 216) (hk : k < 256)
    (o : Fin 1 → ℕ) (ho : ∀ a, o a + S1.size a ≤ S55296.size a)
    (P : BitVec 32 → Prop) (dP : ∀ v, Decidable (P v)) (so : BitVec 32 → Fin 2 → ℕ) (hs : ∀ v, P v → ∀ a, so v a + S1x2176.size a ≤ S49152x2176.size a)
    (d : Fin 3 → ℕ) (hd) (co : Fin 1 → ℕ) (hc)
    (eo : o = ![256 * j + k]) (hP : ∀ v : BitVec 32, v.toNat < 49152 → P v) (es : ∀ v, so v = ![v.toNat, 0]) (ed : d = ![s.val, k, 0]) (ec : co = ![s.val]) :
    iprop(issuing c H g s j k ∗ tPt c X q) ⊢ wp frame (wpE (defs₀ (F := F)) Variants.none (c : Thread nD τ) none) Set.univ
      (do
        let v : Elt F .i32 ← smemLoad (Memref.whole main_arg0) (Rect.unit (s := S55296) o S1.size ho) numel1_S1 rfl
        have h : P v := (← Prog.lift (TpuEff.assume (P v) (dP v))).down
        Prog.lift (.enqueueDma (srcRow (so v) (hs v h)) (.here (dstRow d hd)) (.dma (cell co hc)) (View.wordExact_bits rfl) ((View.wordExact_bits rfl).reshape _ _) ⟨Or.inl rfl, trivial⟩)
        pure ⟨⟩ : Prog (TpuEff nD τ sig (Elt F) Λ₀ .tc) Unit)
      (fun _ => iprop(issuing c H g s j (k + 1) ∗ tPt c X q)) := by
  subst eo
  iintro ⟨HI, HT⟩
  unfold tPt
  sl_exec
  have hv' : (trip.sl.r X j k ho).toNat = (g j ⟨k, hk⟩).val := by
    unfold trip.sl.r
    exact hg j hj ⟨k, hk⟩ _ (show 256 * j + k + 0 * 1 = 256 * j + k by omega)
  generalize (trip.sl.r X j k ho) = v at hv' ⊢
  iapply (wp_assume Variants.none (c : Thread nD τ) none Set.univ (hP v (by rw [hv']; exact (g j ⟨k, hk⟩).isLt)))
  sl_exec
  iapply (wp_issue c H g s j k hk (so v) (hs v (hP v (by rw [hv']; exact (g j ⟨k, hk⟩).isLt))) d hd co hc (by rw [es, hv']) ed ec) $$ HI
  iintro HI
  sl_step
  isplitl [HI] <;> iassumption

/-! ## The waits -/

theorem wp_ret_bind {α β : Type} (a : α) (f : α → Prog (TpuEff nD τ sig (Elt F) Λ₀ .tc) β) {Q : β → sProp 𝕄} :
    wp frame (wpE (defs₀ (F := F)) Variants.none (c : Thread nD τ) none) Set.univ (f a) Q
      ⊢ wp frame (wpE (defs₀ (F := F)) Variants.none (c : Thread nD τ) none) Set.univ ((Prog.ret a).bind f) Q := .rfl

theorem credit_pos : 0 < credit := by unfold credit; decide

/-- Before wait `k`: the tile's copies with `k` rows' units consumed; after the last the slot's cell and every row. -/
def draining (s : Fin 4) (j k : ℕ) : sProp 𝕄 :=
  iprop((∃ W, owes (c : Thread nD τ) 0 W) ∗
    (if k < 256 then batch c H g s j 256 (k * credit) else iprop(cellPt c s ∗ bigSep Finset.univ (deliver c H g s j))))

theorem wait (s : Fin 4) (j k : ℕ) (hk : k < 256) (so : Fin 2 → ℕ) (hs) (d : Fin 3 → ℕ) (hd) (co : Fin 1 → ℕ) (hc) (ec : co = ![s.val]) :
    draining c H g s j k ⊢ wp frame (wpE (defs₀ (F := F)) Variants.none (c : Thread nD τ) none) Set.univ
      (do
        Prog.lift (.waitDma2 (cell co hc) (srcRow so hs) (dstRow d hd) (View.wordExact_bits rfl) ((View.wordExact_bits rfl).reshape _ _))
        pure ⟨⟩ : Prog (TpuEff nD τ sig (Elt F) Λ₀ .tc) Unit)
      (fun _ => draining c H g s j (k + 1)) := by
  subst ec
  unfold draining
  rw [if_pos hk]
  have hN : (dstRow d hd).view.dmaCredit = credit := by unfold credit; rfl
  rcases Nat.lt_or_ge (k + 1) 256 with h1 | h1
  · rw [if_pos h1]
    iintro ⟨⟨%W, HO⟩, HB⟩
    unfold batch
    iapply (Transfers.wp_waitBatch (W := W) (countersEmb (U := UD sig nD τ)) Variants.none (c : Thread nD τ) none (sem := cellM s) () hN
      (D := deliver c H g s j) (u := k * credit) (by
        have h0 := credit_pos
        have h2 : (k + 2) * credit ≤ 256 * credit := Nat.mul_le_mul_right _ (by omega)
        rw [Nat.add_mul] at h2; omega)) $$ [HB HO]
    · isplitl [HB] <;> iassumption
    iintro ⟨HB, HO⟩
    iapply (wp_ret_bind c)
    sl_step
    isplitl [HO]; · iexists _; iexact HO
    rw [show (k + 1) * credit = k * credit + credit from Nat.succ_mul _ _]
    iexact HB
  · rw [if_neg (Nat.not_lt.mpr h1)]
    iintro ⟨⟨%W, HO⟩, HB⟩
    unfold batch
    iapply (Transfers.wp_waitBatchLast (W := W) (countersEmb (U := UD sig nD τ)) Variants.none (c : Thread nD τ) none (sem := cellM s) () hN credit_pos
      (D := deliver c H g s j) (u := k * credit) (by rw [show k = 255 by omega]; omega)) $$ [HB HO]
    · isplitl [HB] <;> iassumption
    iintro ⟨HD, Hc, HO⟩
    iapply (wp_ret_bind c)
    sl_step
    isplitl [HO]; · iexists _; iexact HO
    isplitl [Hc]; · unfold cellPt; iexact Hc
    iexact HD

/-! ## The loops -/

/-- A tile's issue loop: the slot free before, in flight after. -/
theorem issue_loop (s : Fin 4) (j : ℕ) (lb ub st : BitVec 32) (hok : Scf.OK lb ub st) (ht : Scf.trips lb ub st = 256)
    (body : Fin (Scf.trips lb ub st) → Unit → Prog (TpuEff nD τ sig (Elt F) Λ₀ .tc) Unit)
    (hb : ∀ k acc, iprop(issuing c H g s j k.val ∗ tPt c X q) ⊢ wp frame (wpE (defs₀ (F := F)) Variants.none (c : Thread nD τ) none) Set.univ (body k acc)
      (fun _ => iprop(issuing c H g s j (k.val + 1) ∗ tPt c X q)))
    {Q : Unit → sProp 𝕄} :
    iprop(slotFree c H s ∗ tPt c X q ∗ (iprop(slotFly c H g s j ∗ tPt c X q) -∗ Q ⟨⟩))
      ⊢ wp frame (wpE (defs₀ (F := F)) Variants.none (c : Thread nD τ) none) Set.univ (Scf.for lb ub st hok ⟨⟩ body) Q := by
  iintro ⟨HS, HT, HQ⟩
  imod (issue_start c H g s j) $$ HS with HI
  iapply (Scf.wp_for frame _ Set.univ lb ub st hok ⟨⟩ body (fun k _ => iprop(issuing c H g s j k ∗ tPt c X q)) hb)
  isplitl [HI HT]
  · isplitl [HI] <;> iassumption
  iintro %acc ⟨HI, HT⟩
  rw [ht]
  iapply HQ
  isplitl [HI]
  · iapply (issue_done c H g s j); iexact HI
  iexact HT

/-- A tile's wait loop: in flight before, the slot full after. -/
theorem wait_loop (s : Fin 4) (j : ℕ) (lb ub st : BitVec 32) (hok : Scf.OK lb ub st) (ht : Scf.trips lb ub st = 256)
    (body : Fin (Scf.trips lb ub st) → Unit → Prog (TpuEff nD τ sig (Elt F) Λ₀ .tc) Unit)
    (hb : ∀ k acc, draining c H g s j k.val ⊢ wp frame (wpE (defs₀ (F := F)) Variants.none (c : Thread nD τ) none) Set.univ (body k acc)
      (fun _ => draining c H g s j (k.val + 1)))
    {Q : Unit → sProp 𝕄} :
    iprop(slotFly c H g s j ∗ (∃ W, owes (c : Thread nD τ) 0 W) ∗ (iprop(slotFull c H g s j ∗ (∃ W, owes (c : Thread nD τ) 0 W)) -∗ Q ⟨⟩))
      ⊢ wp frame (wpE (defs₀ (F := F)) Variants.none (c : Thread nD τ) none) Set.univ (Scf.for lb ub st hok ⟨⟩ body) Q := by
  unfold slotFly
  iintro ⟨⟨HB, Hr, Hc⟩, HO, HQ⟩
  iapply (Scf.wp_for frame _ Set.univ lb ub st hok ⟨⟩ body (fun k _ => draining c H g s j k) hb)
  isplitl [HB HO]
  · unfold draining
    rw [if_pos (by omega : 0 < 256), Nat.zero_mul]
    isplitl [HO] <;> iassumption
  iintro %acc HD
  rw [ht]
  unfold draining
  rw [if_neg (by omega : ¬ 256 < 256)]
  icases HD with ⟨HO, Hcell, HD⟩
  iapply HQ
  isplitr [HO]
  · iapply (collect c H g s j)
    isplitl [Hcell]; · iexact Hcell
    isplitl [HD]; · iexact HD
    isplitl [Hr]; · iexact Hr
    iexact Hc
  iexact HO

theorem trips1 : k0_t1_loop.trips = 256 := by decide
theorem trips2 : k0_t2_loop.trips = 256 := by decide
theorem trips3 : k0_t3_loop.trips = 256 := by decide
theorem trips4 : k0_t4_loop.trips = 256 := by decide
theorem trips5 : k0_t5_loop.trips = 256 := by decide

end Held

end Cert.Kernel2Ideal.Gen
-- ==== Proof.SlotsIdeal.lean ====
module

public import proofs.«01_k».proof.Proof.Gather2Ideal

/-! The kernel's gather: which tiles are in flight before a grid point, and the point's three gather steps. -/

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

/-! ## The conditions -/

/-- A tile's slot. -/
def slotAt (n : ℕ) : Fin 4 := ⟨n % 4, Nat.mod_lt _ (by omega)⟩

/-- A tile has tokens. -/
def used (v : BitVec 32) : Prop := Scalar.cmpi .sgt v 0#32 = 1#1
instance (v : BitVec 32) : Decidable (used v) := by unfold used; infer_instance

theorem cond1_iff : ∀ i : grid0.Coords, (k0_cond1 i = 1#1 ↔ (i 0).val = 0) := by decide +kernel
theorem cond2_iff (i : grid0.Coords) (v : BitVec 32) : k0_cond2 i v = 1#1 ↔ used v ∧ (i 0).val + 3 < 216 := by
  have h : ∀ (i : grid0.Coords) (k : Fin 2), (Scalar.cmpi .ne (Scalar.extui (Scalar.andi (BitVec.ofFin k : BitVec 1) (Scalar.cmpi .slt (Scalar.addi (BitVec.ofNat 32 (i 0).val) 3#32) 216#32)) : BitVec 32) 0#32 = 1#1
      ↔ (BitVec.ofFin k : BitVec 1) = 1#1 ∧ (i 0).val + 3 < 216) := by decide +kernel
  exact h i (Scalar.cmpi .sgt v 0#32).toFin
theorem cond3_iff (i : grid0.Coords) (v : BitVec 32) : Scalar.cmpi .ne (Scalar.extui (Scalar.ori (Scalar.cmpi .slt (BitVec.ofNat 32 (i 0).val) 3#32) (Scalar.cmpi .sgt v 0#32)) : BitVec 32) 0#32 = 1#1 ↔ (i 0).val < 3 ∨ used v := by
  have h : ∀ (i : grid0.Coords) (k : Fin 2), (Scalar.cmpi .ne (Scalar.extui (Scalar.ori (Scalar.cmpi .slt (BitVec.ofNat 32 (i 0).val) 3#32) (BitVec.ofFin k : BitVec 1)) : BitVec 32) 0#32 = 1#1
      ↔ (i 0).val < 3 ∨ (BitVec.ofFin k : BitVec 1) = 1#1) := by decide +kernel
  exact h i (Scalar.cmpi .sgt v 0#32).toFin
theorem cond4_iff (v : BitVec 32) : k0_cond4 v = 1#1 ↔ ¬ used v := by
  have h : ∀ k : Fin 2, (Scalar.cmpi .ne (Scalar.extui (Scalar.xori (BitVec.ofFin k : BitVec 1) 1#1) : BitVec 32) 0#32 = 1#1 ↔ ¬ (BitVec.ofFin k : BitVec 1) = 1#1) := by decide
  exact h (Scalar.cmpi .sgt v 0#32).toFin
theorem cond5_iff (v : BitVec 32) : k0_cond5 v = 1#1 ↔ used v := by
  have h : ∀ k : Fin 2, (Scalar.cmpi .ne (Scalar.extui (BitVec.ofFin k : BitVec 1) : BitVec 32) 0#32 = 1#1 ↔ (BitVec.ofFin k : BitVec 1) = 1#1) := by decide
  exact h (Scalar.cmpi .sgt v 0#32).toFin

theorem k0_off12_eq : ∀ i : grid0.Coords, k0_off12 i = ![(slotAt ((i 0).val + 3)).val] := by decide +kernel
theorem k0_off16_eq : ∀ i : grid0.Coords, k0_off16 i = ![(slotAt (i 0).val).val] := by decide +kernel
theorem k0_off18_eq : ∀ i : grid0.Coords, k0_off18 i = ![(slotAt (i 0).val).val, 0, 0] := by decide +kernel
theorem k0_off19_eq : ∀ i : grid0.Coords, k0_off19 i = ![(slotAt (i 0).val).val, 0, 2048] := by decide +kernel
theorem k0_off15_eq : ∀ i : grid0.Coords, k0_off15 i = ![(i 0).val - 3] := by decide +kernel
theorem iv_toNat (k : ℕ) (hk : k < 256) : (Scf.iv (0#32 : BitVec 32) 1#32 k).toNat = k :=
  congrFun (k0_off3_eq ⟨k, lt_of_lt_of_eq hk trips1.symm⟩) 1
theorem k0_off13_eq (i : grid0.Coords) (k : Fin k0_t4_loop.trips) : k0_off13 i k = ![(slotAt ((i 0).val + 3)).val, k.val, 0] := by
  have hk : k.val < 256 := lt_of_lt_of_eq k.isLt trips4
  have e : k0_off13 i k = ![k0_off12 i 0, (Scf.iv (0#32 : BitVec 32) 1#32 k.val).toNat, 0] := rfl
  rw [e, iv_toNat k.val hk, k0_off12_eq]; rfl
theorem k0_off11_eq (i : grid0.Coords) (k : Fin k0_t4_loop.trips) : k0_off11 i k = ![((i 0).val + 3) * 256 + k.val] := by
  have r_i0 : (i 0).val < 216 := (i 0).isLt
  have hk : k.val < 256 := lt_of_lt_of_eq k.isLt trips4
  have h0 : Affine.IsInt (BitVec.ofNat 32 (i 0).val) (((i 0).val : Int)) := Affine.ofNat _ (by omega)
  have h3 : Affine.IsInt 3#32 (3) := Affine.ofNat _ (by omega)
  have h35 : Affine.IsInt _ (((i 0).val : Int) + 3) := Affine.addi h0 h3 (by omega)
  have h256 : Affine.IsInt 256#32 (256) := Affine.ofNat _ (by omega)
  have h36 : Affine.IsInt _ ((((i 0).val : Int) + 3) * 256) := Affine.muli h35 h256 (by omega)
  have hz : Affine.IsInt 0#32 (0) := Affine.ofNat _ (by omega)
  have h1 : Affine.IsInt 1#32 (1) := Affine.ofNat _ (by omega)
  have hiv : Affine.IsInt _ ((k.val : Int)) := Affine.iv hz h1 k.val (by omega)
  have h49 : Affine.IsInt _ ((((i 0).val : Int) + 3) * 256 + k.val) := Affine.addi h36 hiv (by omega)
  have h50 : Affine.IsInt _ ((((i 0).val : Int) + 3) * 256 + k.val) := Affine.indexCast h49
  exact Affine.vec_cons h50 (by omega) <| Affine.vec_nil

/-- A tile's count of tokens. -/
def rowAt (R : S216.Idx → BitVec 32) (n : ℕ) : BitVec 32 := R fun | ⟨0, _⟩ => (⟨n % 216, Nat.mod_lt _ (by omega)⟩ : Fin 216)
/-- A tile that is gathered. -/
def issued (R : S216.Idx → BitVec 32) (j : ℕ) : Prop := j < 3 ∨ used (rowAt R (j - 3))
instance (R : S216.Idx → BitVec 32) (j : ℕ) : Decidable (issued R j) := by unfold issued; infer_instance

/-! ## The slots -/

/-- The next tile of a slot at a point. -/
def tileOf (n : ℕ) (s : Fin 4) : ℕ := n + (s.val + 4 - n % 4) % 4
/-- The tiles in flight before a point, after its first step, after its second. -/
def before (R : S216.Idx → BitVec 32) (n : ℕ) (s : Fin 4) : Option ℕ :=
  if 0 < n ∧ tileOf n s < n + 3 ∧ tileOf n s < 216 ∧ issued R (tileOf n s) then some (tileOf n s) else none
def primed (R : S216.Idx → BitVec 32) (n : ℕ) (s : Fin 4) : Option ℕ :=
  if tileOf n s < n + 3 ∧ tileOf n s < 216 ∧ issued R (tileOf n s) then some (tileOf n s) else none
def ahead (R : S216.Idx → BitVec 32) (n : ℕ) (s : Fin 4) : Option ℕ :=
  if tileOf n s < 216 ∧ issued R (tileOf n s) then some (tileOf n s) else none

theorem tileOf_slotAt (n d : ℕ) (hd : d < 4) : tileOf n (slotAt (n + d)) = n + d := by
  unfold tileOf slotAt; show n + ((n + d) % 4 + 4 - n % 4) % 4 = n + d; omega
theorem tileOf_ne (n d : ℕ) (hd : d < 4) (s : Fin 4) (h : s ≠ slotAt (n + d)) : tileOf n s ≠ n + d := by
  intro e; apply h; apply Fin.ext
  have := s.isLt
  unfold tileOf at e; unfold slotAt; show s.val = (n + d) % 4; omega
theorem tileOf_lt (n : ℕ) (s : Fin 4) : tileOf n s < n + 4 := by unfold tileOf; omega
theorem tileOf_ge (n : ℕ) (s : Fin 4) : n ≤ tileOf n s := by unfold tileOf; omega

theorem before_eq_primed (R : S216.Idx → BitVec 32) (n : ℕ) (h : n ≠ 0) : before R n = primed R n := by
  funext s; unfold before primed; simp [Nat.pos_of_ne_zero h]
theorem before_zero (R : S216.Idx → BitVec 32) : before R 0 = fun _ => none := by
  funext s; unfold before; rw [if_neg (fun h => Nat.lt_irrefl 0 h.1)]
theorem primed_zero (R : S216.Idx → BitVec 32) : primed R 0 = Function.update (Function.update (Function.update (fun _ => none) 0 (some 0)) 1 (some 1)) 2 (some 2) := by
  funext s; unfold primed issued; fin_cases s <;> simp [tileOf, Function.update]
theorem ahead_of (R : S216.Idx → BitVec 32) (n : ℕ) (h : used (rowAt R n)) (h3 : n + 3 < 216) : ahead R n = Function.update (primed R n) (slotAt (n + 3)) (some (n + 3)) := by
  funext s
  by_cases e : s = slotAt (n + 3)
  · subst e
    rw [Function.update_self]; unfold ahead; rw [tileOf_slotAt n 3 (by omega), if_pos ⟨h3, Or.inr (by rwa [Nat.add_sub_cancel])⟩]
  · rw [Function.update_of_ne e]
    have h1 := tileOf_ne n 3 (by omega) s e
    have h2 := tileOf_lt n s
    unfold ahead primed
    have h4 : tileOf n s < n + 3 := by omega
    simp [h4]
theorem ahead_eq (R : S216.Idx → BitVec 32) (n : ℕ) (h : ¬ (used (rowAt R n) ∧ n + 3 < 216)) : ahead R n = primed R n := by
  funext s
  by_cases e : s = slotAt (n + 3)
  · subst e
    unfold ahead primed; rw [tileOf_slotAt n 3 (by omega)]
    rw [if_neg, if_neg]
    · rintro ⟨h1, _⟩; omega
    · rintro ⟨h1, h2⟩
      rcases h2 with h2 | h2
      · omega
      · rw [Nat.add_sub_cancel] at h2; exact h ⟨h2, h1⟩
  · have h1 := tileOf_ne n 3 (by omega) s e
    have h2 := tileOf_lt n s
    unfold ahead primed
    have h4 : tileOf n s < n + 3 := by omega
    simp [h4]
theorem primed_slot (R : S216.Idx → BitVec 32) (n : ℕ) : primed R n (slotAt (n + 3)) = none := by
  unfold primed; rw [tileOf_slotAt n 3 (by omega), if_neg (fun h => Nat.lt_irrefl _ h.1)]
theorem ahead_slot (R : S216.Idx → BitVec 32) (n : ℕ) (hn : n < 216) (h : issued R n) : ahead R n (slotAt n) = some n := by
  unfold ahead; rw [show slotAt n = slotAt (n + 0) from rfl, tileOf_slotAt n 0 (by omega), if_pos ⟨hn, h⟩]; rfl
theorem next_of_ne (R : S216.Idx → BitVec 32) (n : ℕ) (s : Fin 4) (e : s ≠ slotAt n) : before R (n + 1) s = ahead R n s := by
  have h1 := tileOf_ne n 0 (by omega) s e
  have h2 := tileOf_lt n s
  have h3 := tileOf_ge n s
  have h4 : tileOf (n + 1) s = tileOf n s := by
    have := s.isLt; unfold tileOf at *; omega
  unfold before ahead; rw [h4]
  have h5 : tileOf n s < n + 1 + 3 := by omega
  simp [h5]
theorem next_slot (R : S216.Idx → BitVec 32) (n : ℕ) : before R (n + 1) (slotAt n) = none := by
  have h4 : tileOf (n + 1) (slotAt n) = n + 4 := by unfold tileOf slotAt; show n + 1 + (n % 4 + 4 - (n + 1) % 4) % 4 = n + 4; omega
  unfold before; rw [h4, if_neg]; rintro ⟨_, h, _⟩; omega
theorem next_of (R : S216.Idx → BitVec 32) (n : ℕ) : before R (n + 1) = Function.update (ahead R n) (slotAt n) none := by
  funext s
  by_cases e : s = slotAt n
  · subst e; rw [Function.update_self, next_slot]
  · rw [Function.update_of_ne e, next_of_ne R n s e]
theorem next_eq (R : S216.Idx → BitVec 32) (n : ℕ) (h : ¬ issued R n) : before R (n + 1) = ahead R n := by
  funext s
  by_cases e : s = slotAt n
  · subst e
    rw [next_slot]; unfold ahead; rw [show slotAt n = slotAt (n + 0) from rfl, tileOf_slotAt n 0 (by omega), if_neg (fun h' => h h'.2)]
  · rw [next_of_ne R n s e]

section Held

variable (c : Dev nD) (H : S49152x2176.Idx → Elt F .f32) (g : ℕ → Fin 256 → Fin 49152) (X : S55296.Idx → Elt F .i32) (q : PosShare TreeShare)

/-- A slot with a tile in flight, or free. -/
def slotIs (s : Fin 4) : Option ℕ → sProp 𝕄
  | some j => slotFly c H g s j
  | none => slotFree c H s
def ring (P : Fin 4 → Option ℕ) : sProp 𝕄 := bigSep Finset.univ fun s => slotIs c H g s (P s)

theorem ring_eq (P : Fin 4 → Option ℕ) (s : Fin 4) (o : Option ℕ) :
    ring c H g (Function.update P s o) = iprop(slotIs c H g s o ∗ bigSep (Finset.univ.erase s) fun r => slotIs c H g r (P r)) := by
  unfold ring
  rw [BI.bigSep_univ_split (Φ := fun r => slotIs c H g r (Function.update P s o r)) s, Function.update_self]
  have e : bigSep (Finset.univ.erase s) (fun r => slotIs c H g r (Function.update P s o r)) = bigSep (Finset.univ.erase s) fun r => slotIs c H g r (P r) :=
    BI.bigSep_congr fun r hr => by rw [Function.update_of_ne (Finset.mem_erase.mp hr).1]
  rw [e]; rfl

/-- One slot taken, to be put back in another state. -/
theorem ring_take (P : Fin 4 → Option ℕ) (s : Fin 4) (o o' : Option ℕ) (h : P s = o) :
    ring c H g P ⊢ iprop(slotIs c H g s o ∗ (slotIs c H g s o' -∗ ring c H g (Function.update P s o'))) := by
  have e : ring c H g P = ring c H g (Function.update P s o) := by rw [← h, Function.update_eq_self]
  rw [e, ring_eq, ring_eq]
  iintro ⟨H1, H2⟩
  isplitl [H1]; · iexact H1
  iintro H1
  isplitl [H1] <;> iassumption

/-! ## The loops of the body -/

section Body

variable (i : grid0.Coords) (arg6 : Memref sig .tc .vmem S1x2048x512 .bf16) (harg6 : arg6.IsWhole) (arg7 : Memref sig .tc .vmem S1x2048x512 .bf16) (harg7 : arg7.IsWhole) (arg8 : Memref sig .tc .vmem S1x512x2048 .bf16) (harg8 : arg8.IsWhole) (arg9 : Memref sig .tc .vmem S1x2048x512 .bf16) (harg9 : arg9.IsWhole) (arg10 : Memref sig .tc .vmem S1x2048x512 .bf16) (harg10 : arg10.IsWhole) (arg11 : Memref sig .tc .vmem S1x512x2048 .bf16) (harg11 : arg11.IsWhole) (arg12 : Memref sig .tc .vmem S256x2048 .f32) (harg12 : arg12.IsWhole)

theorem chk_row (v : BitVec 32) (h : v.toNat < 49152) : ∀ a, (![v.toNat, 0] : Fin 2 → ℕ) a + S1x2176.size a ≤ S49152x2176.size a := src_inb ⟨v.toNat, h⟩

theorem trip1 (hg : Names g X) (h1 : k0_cond1 i = 1#1) (k : Fin k0_t1_loop.trips) (acc : Unit) :
    iprop(issuing c H g 0 0 k.val ∗ tPt c X q) ⊢ wp frame (wpE (defs₀ (F := F)) Variants.none (c : Thread nD τ) none) Set.univ
      (k0_t1_body i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg6 harg6 arg7 harg7 arg8 harg8 arg9 harg9 arg10 harg10 arg11 harg11 arg12 harg12 (Memref.whole cc0_scratch0) (Memref.isWhole_whole _) cc0_scratch1 h1 k acc) (fun _ => iprop(issuing c H g 0 0 (k.val + 1) ∗ tPt c X q)) := by
  have hk : k.val < 256 := lt_of_lt_of_eq k.isLt trips1
  unfold k0_t1_body
  exact trip c H g X q hg 0 0 k.val (by omega) hk (k0_off2 k) (k0_off2_inb i k h1) (k0_chk1 i) (k0_chk1.dec i) k0_off4 (fun v h => k0_off4_inb i v h h1)
    (k0_off3 k) (k0_off3_inb i k h1) ![0] inb_S4_S1_0 (by rw [k0_off2_eq]; congr 1; omega) (fun v h _ => chk_row v h) (fun _ => rfl) (k0_off3_eq k) rfl

theorem trip2 (hg : Names g X) (h1 : k0_cond1 i = 1#1) (k : Fin k0_t2_loop.trips) (acc : Unit) :
    iprop(issuing c H g 1 1 k.val ∗ tPt c X q) ⊢ wp frame (wpE (defs₀ (F := F)) Variants.none (c : Thread nD τ) none) Set.univ
      (k0_t2_body i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg6 harg6 arg7 harg7 arg8 harg8 arg9 harg9 arg10 harg10 arg11 harg11 arg12 harg12 (Memref.whole cc0_scratch0) (Memref.isWhole_whole _) cc0_scratch1 h1 k acc) (fun _ => iprop(issuing c H g 1 1 (k.val + 1) ∗ tPt c X q)) := by
  have hk : k.val < 256 := lt_of_lt_of_eq k.isLt trips2
  unfold k0_t2_body
  exact trip c H g X q hg 1 1 k.val (by omega) hk (k0_off5 k) (k0_off5_inb i k h1) (k0_chk2 i) (k0_chk2.dec i) k0_off7 (fun v h => k0_off7_inb i v h h1)
    (k0_off6 k) (k0_off6_inb i k h1) ![1] inb_S4_S1_1 (by rw [k0_off5_eq]; congr 1; omega) (fun v h _ => chk_row v h) (fun _ => rfl) (k0_off6_eq k) rfl

theorem trip3 (hg : Names g X) (h1 : k0_cond1 i = 1#1) (k : Fin k0_t3_loop.trips) (acc : Unit) :
    iprop(issuing c H g 2 2 k.val ∗ tPt c X q) ⊢ wp frame (wpE (defs₀ (F := F)) Variants.none (c : Thread nD τ) none) Set.univ
      (k0_t3_body i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg6 harg6 arg7 harg7 arg8 harg8 arg9 harg9 arg10 harg10 arg11 harg11 arg12 harg12 (Memref.whole cc0_scratch0) (Memref.isWhole_whole _) cc0_scratch1 h1 k acc) (fun _ => iprop(issuing c H g 2 2 (k.val + 1) ∗ tPt c X q)) := by
  have hk : k.val < 256 := lt_of_lt_of_eq k.isLt trips3
  unfold k0_t3_body
  exact trip c H g X q hg 2 2 k.val (by omega) hk (k0_off8 k) (k0_off8_inb i k h1) (k0_chk3 i) (k0_chk3.dec i) k0_off10 (fun v h => k0_off10_inb i v h h1)
    (k0_off9 k) (k0_off9_inb i k h1) ![2] inb_S4_S1_2 (by rw [k0_off8_eq]; congr 1; omega) (fun v h _ => chk_row v h) (fun _ => rfl) (k0_off9_eq k) rfl

theorem trip4 (hg : Names g X) (v11 : BitVec 32) (h4 : k0_chk4 i v11) (h2 : k0_cond2 i v11 = 1#1) (k : Fin k0_t4_loop.trips) (acc : Unit) :
    iprop(issuing c H g (slotAt ((i 0).val + 3)) ((i 0).val + 3) k.val ∗ tPt c X q) ⊢ wp frame (wpE (defs₀ (F := F)) Variants.none (c : Thread nD τ) none) Set.univ
      (k0_t4_body (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg6 harg6 arg7 harg7 arg8 harg8 arg9 harg9 arg10 harg10 arg11 harg11 arg12 harg12 (Memref.whole cc0_scratch0) (Memref.isWhole_whole _) cc0_scratch1 v11 h4 h2 k acc) (fun _ => iprop(issuing c H g (slotAt ((i 0).val + 3)) ((i 0).val + 3) (k.val + 1) ∗ tPt c X q)) := by
  have hk : k.val < 256 := lt_of_lt_of_eq k.isLt trips4
  unfold k0_t4_body
  exact trip c H g X q hg (slotAt ((i 0).val + 3)) ((i 0).val + 3) k.val ((cond2_iff i v11).mp h2).2 hk (k0_off11 i k) (k0_off11_inb i v11 h4 k h2) (k0_chk5 i v11) (k0_chk5.dec i v11) k0_off14 (fun v h => k0_off14_inb i v11 v h h2)
    (k0_off13 i k) (k0_off13_inb i k) (k0_off12 i) (k0_off12_inb i) (by rw [k0_off11_eq]; congr 1; omega) (fun v h _ => chk_row v h) (fun _ => rfl) (k0_off13_eq i k) (k0_off12_eq i)

theorem trip5 (k : Fin k0_t5_loop.trips) (acc : Unit) :
    draining c H g (slotAt (i 0).val) (i 0).val k.val ⊢ wp frame (wpE (defs₀ (F := F)) Variants.none (c : Thread nD τ) none) Set.univ
      (k0_t5_body (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg6 harg6 arg7 harg7 arg8 harg8 arg9 harg9 arg10 harg10 arg11 harg11 arg12 harg12 (Memref.whole cc0_scratch0) (Memref.isWhole_whole _) cc0_scratch1 k acc) (fun _ => draining c H g (slotAt (i 0).val) (i 0).val (k.val + 1)) := by
  have hk : k.val < 256 := lt_of_lt_of_eq k.isLt trips5
  unfold k0_t5_body
  exact wait c H g (slotAt (i 0).val) (i 0).val k.val hk ![0, 0] inb_S49152x2176_S1x2176_0_0 (k0_off17 i k) (k0_off17_inb i k) (k0_off16 i) (k0_off16_inb i) (k0_off16_eq i)

end Body

end Held

end Cert.Kernel2Ideal.Gen
-- ==== Proof.PointIdeal.lean ====
module

public import proofs.«01_k».proof.Proof.SlotsIdeal

/-! One grid point's gather: its three steps over the buffer's slots. -/

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

variable (c : Dev nD) (H : S49152x2176.Idx → Elt F .f32) (g : ℕ → Fin 256 → Fin 49152) (X : S55296.Idx → Elt F .i32) (q : PosShare TreeShare)
variable (i : grid0.Coords) (arg6 : Memref sig .tc .vmem S1x2048x512 .bf16) (harg6 : arg6.IsWhole) (arg7 : Memref sig .tc .vmem S1x2048x512 .bf16) (harg7 : arg7.IsWhole) (arg8 : Memref sig .tc .vmem S1x512x2048 .bf16) (harg8 : arg8.IsWhole) (arg9 : Memref sig .tc .vmem S1x2048x512 .bf16) (harg9 : arg9.IsWhole) (arg10 : Memref sig .tc .vmem S1x2048x512 .bf16) (harg10 : arg10.IsWhole) (arg11 : Memref sig .tc .vmem S1x512x2048 .bf16) (harg11 : arg11.IsWhole) (arg12 : Memref sig .tc .vmem S256x2048 .f32) (harg12 : arg12.IsWhole)

theorem ring_issue (P : Fin 4 → Option ℕ) (s : Fin 4) (j : ℕ) (h : P s = none) :
    ring c H g P ⊢ iprop(slotFree c H s ∗ (slotFly c H g s j -∗ ring c H g (Function.update P s (some j)))) := ring_take c H g P s none (some j) h
theorem ring_wait (P : Fin 4 → Option ℕ) (s : Fin 4) (j : ℕ) (h : P s = some j) :
    ring c H g P ⊢ iprop(slotFly c H g s j ∗ (slotFree c H s -∗ ring c H g (Function.update P s none))) := ring_take c H g P s (some j) none h

/-- The first step: at point 0 three tiles are started. -/
theorem step1 (hg : Names g X) (R : S216.Idx → BitVec 32) {β : Type} (rest : Prog (TpuEff nD τ sig (Elt F) Λ₀ .tc) β) {Q : β → sProp 𝕄} :
    iprop(ring c H g (before R (i 0).val) ∗ tPt c X q ∗ (iprop(ring c H g (primed R (i 0).val) ∗ tPt c X q) -∗ wp frame (wpE (defs₀ (F := F)) Variants.none (c : Thread nD τ) none) Set.univ rest Q))
      ⊢ wp frame (wpE (defs₀ (F := F)) Variants.none (c : Thread nD τ) none) Set.univ (if h : k0_cond1 i = 1#1 then
          (Scf.Loop.for k0_t1_loop (k0_t1_ok i h) ⟨⟩ (k0_t1_body i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg6 harg6 arg7 harg7 arg8 harg8 arg9 harg9 arg10 harg10 arg11 harg11 arg12 harg12 (Memref.whole cc0_scratch0) (Memref.isWhole_whole _) cc0_scratch1 h) >>= fun _ =>
           Scf.Loop.for k0_t2_loop (k0_t2_ok i h) ⟨⟩ (k0_t2_body i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg6 harg6 arg7 harg7 arg8 harg8 arg9 harg9 arg10 harg10 arg11 harg11 arg12 harg12 (Memref.whole cc0_scratch0) (Memref.isWhole_whole _) cc0_scratch1 h) >>= fun _ =>
           Scf.Loop.for k0_t3_loop (k0_t3_ok i h) ⟨⟩ (k0_t3_body i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg6 harg6 arg7 harg7 arg8 harg8 arg9 harg9 arg10 harg10 arg11 harg11 arg12 harg12 (Memref.whole cc0_scratch0) (Memref.isWhole_whole _) cc0_scratch1 h) >>= fun _ => rest) else rest) Q := by
  by_cases h : k0_cond1 i = 1#1
  · rw [dif_pos h, (cond1_iff i).mp h, before_zero, primed_zero, wp_bind]
    iintro ⟨HR, HT, HK⟩
    ihave HR := (ring_issue c H g _ 0 (0) rfl) $$ HR
    icases HR with ⟨HS, HR⟩
    iapply (issue_loop c H g X q 0 0 _ _ _ _ trips1 _ (trip1 c H g X q i arg6 harg6 arg7 harg7 arg8 harg8 arg9 harg9 arg10 harg10 arg11 harg11 arg12 harg12 hg h))
    isplitl [HS]; · iexact HS
    isplitl [HT]; · iexact HT
    iintro ⟨HS, HT⟩
    ihave HR := HR $$ HS
    rw [wp_bind]
    ihave HR := (ring_issue c H g _ 1 (1) rfl) $$ HR
    icases HR with ⟨HS, HR⟩
    iapply (issue_loop c H g X q 1 1 _ _ _ _ trips2 _ (trip2 c H g X q i arg6 harg6 arg7 harg7 arg8 harg8 arg9 harg9 arg10 harg10 arg11 harg11 arg12 harg12 hg h))
    isplitl [HS]; · iexact HS
    isplitl [HT]; · iexact HT
    iintro ⟨HS, HT⟩
    ihave HR := HR $$ HS
    rw [wp_bind]
    ihave HR := (ring_issue c H g _ 2 (2) rfl) $$ HR
    icases HR with ⟨HS, HR⟩
    iapply (issue_loop c H g X q 2 2 _ _ _ _ trips3 _ (trip3 c H g X q i arg6 harg6 arg7 harg7 arg8 harg8 arg9 harg9 arg10 harg10 arg11 harg11 arg12 harg12 hg h))
    isplitl [HS]; · iexact HS
    isplitl [HT]; · iexact HT
    iintro ⟨HS, HT⟩
    ihave HR := HR $$ HS
    iapply HK
    isplitl [HR] <;> iassumption
  · rw [dif_neg h, before_eq_primed R _ (fun h' => h ((cond1_iff i).mpr h'))]
    iintro ⟨HR, HT, HK⟩
    iapply HK
    isplitl [HR] <;> iassumption

/-- The second step: a used tile starts the third after it. -/
theorem step2 (hg : Names g X) (R : S216.Idx → BitVec 32) (v11 : BitVec 32) (hv : v11 = rowAt R (i 0).val) (h4 : k0_chk4 i v11) {β : Type} (rest : Prog (TpuEff nD τ sig (Elt F) Λ₀ .tc) β) {Q : β → sProp 𝕄} :
    iprop(ring c H g (primed R (i 0).val) ∗ tPt c X q ∗ (iprop(ring c H g (ahead R (i 0).val) ∗ tPt c X q) -∗ wp frame (wpE (defs₀ (F := F)) Variants.none (c : Thread nD τ) none) Set.univ rest Q))
      ⊢ wp frame (wpE (defs₀ (F := F)) Variants.none (c : Thread nD τ) none) Set.univ (if h : k0_cond2 i v11 = 1#1 then
          (Scf.Loop.for k0_t4_loop k0_t4_ok ⟨⟩ (k0_t4_body (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg6 harg6 arg7 harg7 arg8 harg8 arg9 harg9 arg10 harg10 arg11 harg11 arg12 harg12 (Memref.whole cc0_scratch0) (Memref.isWhole_whole _) cc0_scratch1 v11 h4 h) >>= fun _ => rest) else rest) Q := by
  by_cases h : k0_cond2 i v11 = 1#1
  · have hu := (cond2_iff i v11).mp h
    rw [dif_pos h, ahead_of R _ (hv ▸ hu.1) hu.2, wp_bind]
    iintro ⟨HR, HT, HK⟩
    ihave HR := (ring_issue c H g _ (slotAt ((i 0).val + 3)) (((i 0).val + 3)) (primed_slot R _)) $$ HR
    icases HR with ⟨HS, HR⟩
    iapply (issue_loop c H g X q (slotAt ((i 0).val + 3)) ((i 0).val + 3) _ _ _ _ trips4 _ (trip4 c H g X q i arg6 harg6 arg7 harg7 arg8 harg8 arg9 harg9 arg10 harg10 arg11 harg11 arg12 harg12 hg v11 h4 h))
    isplitl [HS]; · iexact HS
    isplitl [HT]; · iexact HT
    iintro ⟨HS, HT⟩
    ihave HR := HR $$ HS
    iapply HK
    isplitl [HR] <;> iassumption
  · rw [dif_neg h, ahead_eq R _ (fun h' => h ((cond2_iff i v11).mpr (hv ▸ h')))]
    iintro ⟨HR, HT, HK⟩
    iapply HK
    isplitl [HR] <;> iassumption

/-- What stands after the third step: a gathered tile's slot full and to be given back, or nothing new. -/
def landed (R : S216.Idx → BitVec 32) (n : ℕ) : sProp 𝕄 :=
  if issued R n then iprop(slotFull c H g (slotAt n) n ∗ (slotFree c H (slotAt n) -∗ ring c H g (before R (n + 1)))) else ring c H g (before R (n + 1))

/-- The third step: a gathered tile is waited for. -/
theorem step3 (R : S216.Idx → BitVec 32) (v25 : BitVec 32) (hv : v25 = rowAt R ((i 0).val - 3)) {β : Type} (rest : Prog (TpuEff nD τ sig (Elt F) Λ₀ .tc) β) {Q : β → sProp 𝕄} :
    iprop(ring c H g (ahead R (i 0).val) ∗ (∃ W, owes (c : Thread nD τ) 0 W) ∗ (iprop(landed c H g R (i 0).val ∗ (∃ W, owes (c : Thread nD τ) 0 W)) -∗ wp frame (wpE (defs₀ (F := F)) Variants.none (c : Thread nD τ) none) Set.univ rest Q))
      ⊢ wp frame (wpE (defs₀ (F := F)) Variants.none (c : Thread nD τ) none) Set.univ (if Scalar.cmpi .ne (Scalar.extui (Scalar.ori (Scalar.cmpi .slt (BitVec.ofNat 32 (i 0).val) 3#32) (Scalar.cmpi .sgt v25 0#32)) : BitVec 32) 0#32 = 1#1 then
          (Scf.Loop.for k0_t5_loop k0_t5_ok ⟨⟩ (k0_t5_body (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg6 harg6 arg7 harg7 arg8 harg8 arg9 harg9 arg10 harg10 arg11 harg11 arg12 harg12 (Memref.whole cc0_scratch0) (Memref.isWhole_whole _) cc0_scratch1) >>= fun _ => rest) else rest) Q := by
  have hi : (i 0).val < 216 := (i 0).isLt
  unfold landed
  by_cases h : Scalar.cmpi .ne (Scalar.extui (Scalar.ori (Scalar.cmpi .slt (BitVec.ofNat 32 (i 0).val) 3#32) (Scalar.cmpi .sgt v25 0#32)) : BitVec 32) 0#32 = 1#1
  · have hu : issued R (i 0).val := by unfold issued; exact hv ▸ (cond3_iff i v25).mp h
    rw [if_pos h, if_pos hu, wp_bind, next_of]
    iintro ⟨HR, HO, HK⟩
    ihave HR := (ring_wait c H g _ (slotAt (i 0).val) (i 0).val (ahead_slot R _ hi hu)) $$ HR
    icases HR with ⟨HS, HR⟩
    iapply (wait_loop c H g (slotAt (i 0).val) (i 0).val _ _ _ _ trips5 _ (trip5 c H g i arg6 harg6 arg7 harg7 arg8 harg8 arg9 harg9 arg10 harg10 arg11 harg11 arg12 harg12))
    isplitl [HS]; · iexact HS
    isplitl [HO]; · iexact HO
    iintro ⟨HS, HO⟩
    iapply HK
    isplitl [HS HR]
    · isplitl [HS] <;> iassumption
    iexact HO
  · have hu : ¬ issued R (i 0).val := fun h' => h ((cond3_iff i v25).mpr (by unfold issued at h'; exact hv ▸ h'))
    rw [if_neg h, if_neg hu, next_eq R _ hu]
    iintro ⟨HR, HO, HK⟩
    iapply HK
    isplitl [HR] <;> iassumption

end Cert.Kernel2Ideal.Gen
-- ==== Proof.StepIdeal.lean ====
module

public import proofs.«01_k».proof.Proof.PointIdeal

/-! One grid point's body. -/

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

variable (c : Dev nD) (H : S49152x2176.Idx → Elt F .f32) (g : ℕ → Fin 256 → Fin 49152) (X : S55296.Idx → Elt F .i32) (R : S216.Idx → BitVec 32) (q q' : PosShare TreeShare)
variable (i : grid0.Coords) (arg6 : Memref sig .tc .vmem S1x2048x512 .bf16) (harg6 : arg6.IsWhole) (arg7 : Memref sig .tc .vmem S1x2048x512 .bf16) (harg7 : arg7.IsWhole) (arg8 : Memref sig .tc .vmem S1x512x2048 .bf16) (harg8 : arg8.IsWhole) (arg9 : Memref sig .tc .vmem S1x2048x512 .bf16) (harg9 : arg9.IsWhole) (arg10 : Memref sig .tc .vmem S1x2048x512 .bf16) (harg10 : arg10.IsWhole) (arg11 : Memref sig .tc .vmem S1x512x2048 .bf16) (harg11 : arg11.IsWhole) (arg12 : Memref sig .tc .vmem S256x2048 .f32) (harg12 : arg12.IsWhole)

/-- The table of the tiles' token counts. -/
def rPt : sProp 𝕄 := (Memref.whole main_arg3).view.loc (c : Thread nD τ) ↦[Finset.univ]{q'} (R : Buf (Elt F) ((Memref.whole main_arg3).view.loc (c : Thread nD τ)))

theorem read_stored (m : Memref sig .tc .vmem S256x2048 .f32) (f : m.view.ty.Contents (Elt F)) (w : Vec F S256x2048 .f32) :
    m.view.read (Elt F) (m.view.writes (Elt F) f [⟨Rect.unit (s := S256x2048) ![0, 0] S256x2048.size inb_S256x2048_S256x2048_0_0, w⟩]) = w := by
  funext y
  have e : (Rect.unit (s := S256x2048) ![0, 0] S256x2048.size inb_S256x2048_S256x2048_0_0).emb y = y := by
    funext a; fin_cases a <;> exact Fin.ext ((Nat.zero_add _).trans (Nat.one_mul _))
  have h := View.read_writes_cons_emb (v := m.view) (f := f) (Rect.unit (s := S256x2048) ![0, 0] S256x2048.size inb_S256x2048_S256x2048_0_0) w [] y
  exact (congrArg (m.view.read (Elt F) (m.view.writes (Elt F) f [⟨Rect.unit (s := S256x2048) ![0, 0] S256x2048.size inb_S256x2048_S256x2048_0_0, w⟩])) e.symm).trans h

theorem loadA (m : Memref sig .tc .vmem S1x2048x512 .bf16) (f : m.view.ty.Contents (Elt F)) :
    m.view.readAt (Elt F) (Rect.unit (s := S1x2048x512) ![0, 0, 0] S1x2048x512.size inb_S1x2048x512_S1x2048x512_0_0_0).toLoadRect f = m.view.read (Elt F) f := by
  funext y
  refine congrArg (m.view.read (Elt F) f) ?_
  funext a; fin_cases a <;> exact Fin.ext ((Nat.zero_add _).trans (Nat.one_mul _))
theorem loadB (m : Memref sig .tc .vmem S1x512x2048 .bf16) (f : m.view.ty.Contents (Elt F)) :
    m.view.readAt (Elt F) (Rect.unit (s := S1x512x2048) ![0, 0, 0] S1x512x2048.size inb_S1x512x2048_S1x512x2048_0_0_0).toLoadRect f = m.view.read (Elt F) f := by
  funext y
  refine congrArg (m.view.read (Elt F) f) ?_
  funext a; fin_cases a <;> exact Fin.ext ((Nat.zero_add _).trans (Nat.one_mul _))
theorem read_stored' (m : Memref sig .tc .vmem S256x2048 .f32) (f : m.view.ty.Contents (Elt F)) (w : Vec F S256x2048 .f32) :
    m.view.read (Elt F) (m.view.writes (Elt F) f [⟨Rect.unit (s := S256x2048) ![0, 0] ![256, 2048] inb_S256x2048_S256x2048_0_0, w⟩]) = w := read_stored m f w
theorem loadB' (m : Memref sig .tc .vmem S1x512x2048 .bf16) (f : m.view.ty.Contents (Elt F)) :
    m.view.readAt (Elt F) (Rect.unit (s := S1x512x2048) ![0, 0, 0] ![1, 512, 2048] inb_S1x512x2048_S1x512x2048_0_0_0).toLoadRect f = m.view.read (Elt F) f := loadB m f
theorem pay_congr (h : Vec F S1x256x2048 .f32) (w : Vec F S1x256x128 .f32) {a0 b0 a1 b1 a3 b3 a4 b4 : Vec F S1x2048x512 .bf16} {a2 b2 a5 b5 : Vec F S1x512x2048 .bf16}
    (e0 : a0 = b0) (e1 : a1 = b1) (e2 : a2 = b2) (e3 : a3 = b3) (e4 : a4 = b4) (e5 : a5 = b5) :
    k0_pay1 (k0_pay3 w) (k0_pay4 h w a0 a1 a2) (k0_pay5 h a3 a4) a5 = k0_pay1 (k0_pay3 w) (k0_pay4 h w b0 b1 b2) (k0_pay5 h b3 b4) b5 := by
  subst e0 e1 e2 e3 e4 e5; rfl

theorem chk4 (v : BitVec 32) : k0_chk4 i v := fun k h2 => by
  have hu := ((cond2_iff i v).mp h2).2
  have hk : k.val < 256 := lt_of_lt_of_eq k.isLt trips4
  rw [k0_off11_eq]; intro a; fin_cases a
  show ((i 0).val + 3) * 256 + k.val + 1 ≤ 55296
  omega

set_option maxHeartbeats 1000000 in
/-- The point's gather and, of an unused tile, its zeros. -/
theorem part2 (hg : Names g X) (hi : (i 0).val < 216) {Q : (Σ' (v9 : BitVec 32) (v11 : Elt F .i32) (v33 : BitVec 32), BitVec 32) → sProp 𝕄} :
    iprop(ring c H g (before R (i 0).val) ∗ tPt c X q ∗ rPt c R q' ∗ (∃ W, owes (c : Thread nD τ) 0 W) ∗ (∃ d, owns (c : Thread nD τ) arg12 fullShare d)
      ∗ (∀ v9 v33, iprop(landed c H g R (i 0).val ∗ tPt c X q ∗ rPt c R q' ∗ (∃ W, owes (c : Thread nD τ) 0 W)
          ∗ (if used (rowAt R (i 0).val) then (∃ d, owns (c : Thread nD τ) arg12 fullShare d) else owns (c : Thread nD τ) arg12 fullShare (k0_pay6 (F := F)))) -∗ Q ⟨v9, rowAt R (i 0).val, v33, 0#32⟩))
      ⊢ wp frame (wpE (defs₀ (F := F)) Variants.none (c : Thread nD τ) none) Set.univ (k0_part2 (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg6 harg6 arg7 harg7 arg8 harg8 arg9 harg9 arg10 harg10 arg11 harg11 arg12 harg12 (Memref.whole cc0_scratch0) (Memref.isWhole_whole _) cc0_scratch1) Q := by
  simp only [k0_part2_eq_skeleton]; unfold k0_part2_skel
  iintro ⟨HR, HT, HK3, HO, H12, HQ⟩
  unfold rPt
  sl_exec
  have hv : part2.sl.r (F := F) R i = rowAt R (i 0).val := by
    unfold part2.sl.r rowAt
    refine congrArg R (funext fun | ⟨0, _⟩ => Fin.ext ?_)
    show k0_off1 i 0 + 0 * 1 = (i 0).val % 216
    rw [k0_off1_eq]; show (i 0).val + 0 * 1 = (i 0).val % 216
    omega
  generalize (part2.sl.r (F := F) R i) = v at hv ⊢
  iapply (wp_assume Variants.none (c : Thread nD τ) none Set.univ (chk4 i v))
  iapply (step1 c H g X q i arg6 harg6 arg7 harg7 arg8 harg8 arg9 harg9 arg10 harg10 arg11 harg11 arg12 harg12 hg R)
  isplitl [HR]; · iexact HR
  isplitl [HT]; · iexact HT
  iintro ⟨HR, HT⟩
  iapply (step2 c H g X q i arg6 harg6 arg7 harg7 arg8 harg8 arg9 harg9 arg10 harg10 arg11 harg11 arg12 harg12 hg R v hv (chk4 i v))
  isplitl [HR]; · iexact HR
  isplitl [HT]; · iexact HT
  iintro ⟨HR, HT⟩
  sl_exec
  have h25 : part2.sl.v29 (F := F) R i = Scalar.cmpi .ne (Scalar.extui (Scalar.ori (Scalar.cmpi .slt (BitVec.ofNat 32 (i 0).val) 3#32) (Scalar.cmpi .sgt (rowAt R ((i 0).val - 3)) 0#32)) : BitVec 32) 0#32 := by
    have e : part2.sl.r_1 (F := F) R i = rowAt R ((i 0).val - 3) := by
      unfold part2.sl.r_1 rowAt
      refine congrArg R (funext fun | ⟨0, _⟩ => Fin.ext ?_)
      show k0_off15 i 0 + 0 * 1 = ((i 0).val - 3) % 216
      rw [k0_off15_eq]; show (i 0).val - 3 + 0 * 1 = ((i 0).val - 3) % 216
      omega
    unfold part2.sl.v29
    rw [← e]
    rfl
  rw [h25]
  iapply (step3 c H g i arg6 harg6 arg7 harg7 arg8 harg8 arg9 harg9 arg10 harg10 arg11 harg11 arg12 harg12 R _ rfl)
  isplitl [HR]; · iexact HR
  isplitl [HO]; · iexact HO
  iintro ⟨HR, HO⟩
  rw [← hv]
  unfold owns
  icases H12 with ⟨%d, %f, %hf, H12⟩
  by_cases hu : used v
  · rw [if_pos hu]
    have h4 : ¬ k0_cond4 v = 1#1 := fun h => (cond4_iff v).mp h hu
    sl_exec (disch := first | sl_exact h4)
    sl_step
    iapply HQ
    isplitl [HR]; · iexact HR
    isplitl [HT]; · iexact HT
    isplitl [HK3]; · iexact HK3
    isplitl [HO]; · iexact HO
    iexists _, _; isplitr; swap; · iexact H12
    ipureintro; exact hf
  · rw [if_neg hu]
    have h4 : k0_cond4 v = 1#1 := (cond4_iff v).mpr hu
    sl_exec (disch := first | sl_exact h4)
    sl_step
    iapply HQ
    isplitl [HR]; · iexact HR
    isplitl [HT]; · iexact HT
    isplitl [HK3]; · iexact HK3
    isplitl [HO]; · iexact HO
    iexists _; isplitr; swap; · iexact H12
    ipureintro; exact read_stored arg12 f _

/-- A gathered tile's rows and its two weights. -/
def hTile (n : ℕ) : Vec F S1x256x2048 .f32 := fun y => H (hIdx (g n (y 1)) ⟨(y 2).val, lt_trans (show (y 2).val < 2048 from (y 2).isLt) (by omega)⟩)
def wTile (n : ℕ) : Vec F S1x256x128 .f32 := fun y => H (hIdx (g n (y 1)) ⟨2048 + (y 2).val, by have : (y 2).val < 128 := (y 2).isLt; omega⟩)

/-- What a tile's point leaves in the result. -/
def tileOut (n : ℕ) (x0 x1 x3 x4 : Vec F S1x2048x512 .bf16) (x2 x5 : Vec F S1x512x2048 .bf16) : Vec F S256x2048 .f32 :=
  if used (rowAt R n) then k0_pay1 (k0_pay3 (wTile H g n)) (k0_pay4 (hTile H g n) (wTile H g n) x0 x1 x2) (k0_pay5 (hTile H g n) x3 x4) x5 else k0_pay6 (F := F)

/-- The slot's elements, as the two loads find them. -/
abbrev slotPt (n : ℕ) : sProp 𝕄 := (Memref.whole cc0_scratch0).view.loc (c : Thread nD τ) ↦[slotSet (slotAt n)]{fullShare} (rowsOf H g n : Buf (Elt F) ((Memref.whole cc0_scratch0).view.loc (c : Thread nD τ)))

theorem load_h (hi : (i 0).val < 216) {α : Type} {hl} {k : Vec F S1x256x2048 .f32 → Prog (TpuEff nD τ sig (Elt F) Λ₀ .tc) α} {Q : α → sProp 𝕄} :
    slotPt c H g (i 0).val ⊢ iprop((slotPt c H g (i 0).val -∗ wp frame (wpE (defs₀ (F := F)) Variants.none (c : Thread nD τ) none) Set.univ (k (hTile H g (i 0).val)) Q) -∗ wp frame (wpE (defs₀ (F := F)) Variants.none (c : Thread nD τ) none) Set.univ
      (.op (.load (Memref.whole cc0_scratch0) (Rect.unit (s := S4x256x2176) (k0_off18 i) S1x256x2048.size (k0_off18_inb i)).toLoadRect hl) k) Q) := by
  have s : (Memref.whole cc0_scratch0 : Memref sig .tc .vmem S4x256x2176 .f32).view.setOn ((Rect.unit (s := S4x256x2176) (k0_off18 i) S1x256x2048.size (k0_off18_inb i)).toLoadRect).set ⊆ slotSet (slotAt (i 0).val) := by
    intro z hz
    obtain ⟨x, hx, rfl⟩ := Finset.mem_map.mp hz
    have h0 : k0_off18 i 0 ≤ (x 0).val ∧ (x 0).val < k0_off18 i 0 + 1 := (Rect.mem_set_unit (s := S4x256x2176)).mp hx 0
    rw [k0_off18_eq] at h0
    have h1 : (slotAt (i 0).val).val ≤ (x 0).val ∧ (x 0).val < (slotAt (i 0).val).val + 1 := h0
    refine Finset.mem_filter.mpr ⟨Finset.mem_univ _, ?_⟩
    show (x 0).val = _
    omega
  have e : (Memref.whole cc0_scratch0 : Memref sig .tc .vmem S4x256x2176 .f32).view.readAt (Elt F) ((Rect.unit (s := S4x256x2176) (k0_off18 i) S1x256x2048.size (k0_off18_inb i)).toLoadRect) (rowsOf H g (i 0).val) = hTile H g (i 0).val := by
    funext y
    have h1 : k0_off18 i 1 + 1 * (y 1).val = (y 1).val := by have o : k0_off18 i 1 = 0 := congrFun (k0_off18_eq i) 1; omega
    have h2 : k0_off18 i 2 + 1 * (y 2).val = (y 2).val := by have o : k0_off18 i 2 = 0 := congrFun (k0_off18_eq i) 2; omega
    exact congrArg H (congrArg₂ hIdx (congrArg (g (i 0).val) (Fin.ext h1)) (Fin.ext h2))
  rw [← e]
  exact wp_load Variants.none (c : Thread nD τ) none Set.univ s

theorem load_w (hi : (i 0).val < 216) {α : Type} {hl} {k : Vec F S1x256x128 .f32 → Prog (TpuEff nD τ sig (Elt F) Λ₀ .tc) α} {Q : α → sProp 𝕄} :
    slotPt c H g (i 0).val ⊢ iprop((slotPt c H g (i 0).val -∗ wp frame (wpE (defs₀ (F := F)) Variants.none (c : Thread nD τ) none) Set.univ (k (wTile H g (i 0).val)) Q) -∗ wp frame (wpE (defs₀ (F := F)) Variants.none (c : Thread nD τ) none) Set.univ
      (.op (.load (Memref.whole cc0_scratch0) (Rect.unit (s := S4x256x2176) (k0_off19 i) S1x256x128.size (k0_off19_inb i)).toLoadRect hl) k) Q) := by
  have s : (Memref.whole cc0_scratch0 : Memref sig .tc .vmem S4x256x2176 .f32).view.setOn ((Rect.unit (s := S4x256x2176) (k0_off19 i) S1x256x128.size (k0_off19_inb i)).toLoadRect).set ⊆ slotSet (slotAt (i 0).val) := by
    intro z hz
    obtain ⟨x, hx, rfl⟩ := Finset.mem_map.mp hz
    have h0 : k0_off19 i 0 ≤ (x 0).val ∧ (x 0).val < k0_off19 i 0 + 1 := (Rect.mem_set_unit (s := S4x256x2176)).mp hx 0
    rw [k0_off19_eq] at h0
    have h1 : (slotAt (i 0).val).val ≤ (x 0).val ∧ (x 0).val < (slotAt (i 0).val).val + 1 := h0
    refine Finset.mem_filter.mpr ⟨Finset.mem_univ _, ?_⟩
    show (x 0).val = _
    omega
  have e : (Memref.whole cc0_scratch0 : Memref sig .tc .vmem S4x256x2176 .f32).view.readAt (Elt F) ((Rect.unit (s := S4x256x2176) (k0_off19 i) S1x256x128.size (k0_off19_inb i)).toLoadRect) (rowsOf H g (i 0).val) = wTile H g (i 0).val := by
    funext y
    have h1 : k0_off19 i 1 + 1 * (y 1).val = (y 1).val := by have o : k0_off19 i 1 = 0 := congrFun (k0_off19_eq i) 1; omega
    have h2 : k0_off19 i 2 + 1 * (y 2).val = 2048 + (y 2).val := by have o : k0_off19 i 2 = 2048 := congrFun (k0_off19_eq i) 2; omega
    exact congrArg H (congrArg₂ hIdx (congrArg (g (i 0).val) (Fin.ext h1)) (Fin.ext h2))
  rw [← e]
  exact wp_load Variants.none (c : Thread nD τ) none Set.univ s

theorem wp_ret_bind2 {α β γ : Type} (a : α) (f : α → Prog (TpuEff nD τ sig (Elt F) Λ₀ .tc) β) (k : β → Prog (TpuEff nD τ sig (Elt F) Λ₀ .tc) γ) {Q : γ → sProp 𝕄} :
    wp frame (wpE (defs₀ (F := F)) Variants.none (c : Thread nD τ) none) Set.univ (f a >>= k) Q ⊢ wp frame (wpE (defs₀ (F := F)) Variants.none (c : Thread nD τ) none) Set.univ (((Prog.ret a).bind f).bind k) Q := .rfl

set_option maxHeartbeats 1000000 in
/-- The point's body. -/
theorem step (hg : Names g X) (hi : (i 0).val < 216) (hp : used (rowAt R (i 0).val) → issued R (i 0).val)
    (x0 x1 x3 x4 : Vec F S1x2048x512 .bf16) (x2 x5 : Vec F S1x512x2048 .bf16) {Q : PUnit → sProp 𝕄} :
    iprop(ring c H g (before R (i 0).val) ∗ tPt c X q ∗ rPt c R q' ∗ (∃ W, owes (c : Thread nD τ) 0 W)
      ∗ owns (c : Thread nD τ) arg6 fullShare x0 ∗ owns (c : Thread nD τ) arg7 fullShare x1 ∗ owns (c : Thread nD τ) arg8 fullShare x2
      ∗ owns (c : Thread nD τ) arg9 fullShare x3 ∗ owns (c : Thread nD τ) arg10 fullShare x4 ∗ owns (c : Thread nD τ) arg11 fullShare x5
      ∗ (∃ d, owns (c : Thread nD τ) arg12 fullShare d)
      ∗ (iprop(ring c H g (before R ((i 0).val + 1)) ∗ tPt c X q ∗ rPt c R q' ∗ (∃ W, owes (c : Thread nD τ) 0 W)
          ∗ owns (c : Thread nD τ) arg6 fullShare x0 ∗ owns (c : Thread nD τ) arg7 fullShare x1 ∗ owns (c : Thread nD τ) arg8 fullShare x2
          ∗ owns (c : Thread nD τ) arg9 fullShare x3 ∗ owns (c : Thread nD τ) arg10 fullShare x4 ∗ owns (c : Thread nD τ) arg11 fullShare x5
          ∗ owns (c : Thread nD τ) arg12 fullShare (tileOut H g R (i 0).val x0 x1 x3 x4 x2 x5)) -∗ Q ⟨⟩))
      ⊢ wp frame (wpE (defs₀ (F := F)) Variants.none (c : Thread nD τ) none) Set.univ (cc0_moe (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) arg6 harg6 arg7 harg7 arg8 harg8 arg9 harg9 arg10 harg10 arg11 harg11 arg12 harg12 (Memref.whole cc0_scratch0) (Memref.isWhole_whole _) cc0_scratch1) Q := by
  simp only [cc0_moe_eq_skeleton]; unfold cc0_moe_skel
  rw [wp_bind]
  iintro ⟨HR, HT, HK, HO, H6, H7, H8, H9, H10, H11, H12, HQ⟩
  iapply (part2 c H g X R q q' i arg6 harg6 arg7 harg7 arg8 harg8 arg9 harg9 arg10 harg10 arg11 harg11 arg12 harg12 hg hi)
  isplitl [HR]; · iexact HR
  isplitl [HT]; · iexact HT
  isplitl [HK]; · iexact HK
  isplitl [HO]; · iexact HO
  isplitl [H12]; · iexact H12
  iintro %v9 %v33 ⟨HR, HT, HK, HO, H12⟩
  simp only [k0_part1_eq_skeleton]; unfold k0_part1_skel
  by_cases hu : used (rowAt R (i 0).val)
  · have h5 : k0_cond5 (rowAt R (i 0).val) = 1#1 := (cond5_iff _).mpr hu
    have ht : tileOut H g R (i 0).val x0 x1 x3 x4 x2 x5 = k0_pay1 (k0_pay3 (wTile H g (i 0).val)) (k0_pay4 (hTile H g (i 0).val) (wTile H g (i 0).val) x0 x1 x2) (k0_pay5 (hTile H g (i 0).val) x3 x4) x5 := by unfold tileOut; rw [if_pos hu]
    have hl : landed c H g R (i 0).val ⊢ iprop((cellPt c (slotAt (i 0).val) ∗ ((Memref.whole cc0_scratch0).view.loc (c : Thread nD τ) ↦[slotSet (slotAt (i 0).val)]{fullShare} (rowsOf H g (i 0).val : Buf (Elt F) ((Memref.whole cc0_scratch0).view.loc (c : Thread nD τ)))) ∗ hPt c H Finset.univ (slotShare (slotAt (i 0).val)))
        ∗ (slotFree c H (slotAt (i 0).val) -∗ ring c H g (before R ((i 0).val + 1)))) := by
      unfold landed; rw [if_pos (hp hu)]; exact .rfl
    ihave HR := hl $$ HR
    ihave H12 := (show (if used (rowAt R (i 0).val) then iprop(∃ d, owns (c : Thread nD τ) arg12 fullShare d) else owns (c : Thread nD τ) arg12 fullShare (k0_pay6 (F := F))) ⊢ iprop(∃ d, owns (c : Thread nD τ) arg12 fullShare d) from by rw [if_pos hu]) $$ H12
    rw [ht]
    unfold owns
    icases H6 with ⟨%f6, %h6, H6⟩
    icases H7 with ⟨%f7, %h7, H7⟩
    icases H8 with ⟨%f8, %h8, H8⟩
    icases H9 with ⟨%f9, %h9, H9⟩
    icases H10 with ⟨%f10, %h10, H10⟩
    icases H11 with ⟨%f11, %h11, H11⟩
    icases H12 with ⟨%d, %f12, %h12, H12⟩
    obtain rfl := harg6.eq_unread h6; obtain rfl := harg7.eq_unread h7; obtain rfl := harg8.eq_unread h8
    obtain rfl := harg9.eq_unread h9; obtain rfl := harg10.eq_unread h10; obtain rfl := harg11.eq_unread h11
    icases HR with ⟨⟨HC, HB, HH⟩, HR⟩
    sl_exec (disch := first | sl_exact h5)
    iapply (load_h c H g i hi) $$ HB
    iintro HB
    iapply (load_w c H g i hi) $$ HB
    iintro HB
    iapply (wp_ret_bind2 c)
    sl_exec
    sl_step
    iapply HQ
    isplitl [HR HC HB HH]
    · iapply HR
      iapply (slotFull_free c H g (slotAt (i 0).val) (i 0).val)
      unfold slotFull
      isplitl [HC]; · iexact HC
      isplitl [HB]
      · iapply (show slotPt c H g (i 0).val ⊢ bPt c (slotSet (slotAt (i 0).val)) (rowsOf H g (i 0).val) from .rfl); iexact HB
      iexact HH
    isplitl [HT]; · iexact HT
    isplitl [HK]; · iexact HK
    isplitl [HO]; · iexact HO
    isplitl [H6]; · iexists _; isplitr; swap; · iexact H6
                    ipureintro; exact h6
    isplitl [H7]; · iexists _; isplitr; swap; · iexact H7
                    ipureintro; exact h7
    isplitl [H8]; · iexists _; isplitr; swap; · iexact H8
                    ipureintro; exact h8
    isplitl [H9]; · iexists _; isplitr; swap; · iexact H9
                    ipureintro; exact h9
    isplitl [H10]; · iexists _; isplitr; swap; · iexact H10
                     ipureintro; exact h10
    isplitl [H11]; · iexists _; isplitr; swap; · iexact H11
                     ipureintro; exact h11
    iexists _; isplitr; swap; · iexact H12
    ipureintro
    refine (read_stored' arg12 f12 _).trans ?_
    have e6 := (loadA arg6 (harg6.unread x0)).trans h6
    have e7 := (loadA arg7 (harg7.unread x1)).trans h7
    have e8 := (loadB arg8 (harg8.unread x2)).trans h8
    have e9 := (loadA arg9 (harg9.unread x3)).trans h9
    have e10 := (loadA arg10 (harg10.unread x4)).trans h10
    have e11 := (loadB' arg11 (harg11.unread x5)).trans h11
    exact pay_congr (hTile H g (i 0).val) (wTile H g (i 0).val) e6 e7 e8 e9 e10 e11
  · have h5 : ¬ k0_cond5 (rowAt R (i 0).val) = 1#1 := fun h => hu ((cond5_iff _).mp h)
    have ht : tileOut H g R (i 0).val x0 x1 x3 x4 x2 x5 = k0_pay6 (F := F) := by unfold tileOut; rw [if_neg hu]
    have hl : landed c H g R (i 0).val ⊢ ring c H g (before R ((i 0).val + 1)) := by
      unfold landed
      by_cases hs : issued R (i 0).val
      · rw [if_pos hs]
        iintro ⟨HS, HR⟩
        iapply HR
        iapply (slotFull_free c H g _ _); iexact HS
      · rw [if_neg hs]
    ihave HR := hl $$ HR
    ihave H12 := (show (if used (rowAt R (i 0).val) then iprop(∃ d, owns (c : Thread nD τ) arg12 fullShare d) else owns (c : Thread nD τ) arg12 fullShare (k0_pay6 (F := F))) ⊢ owns (c : Thread nD τ) arg12 fullShare (k0_pay6 (F := F)) from by rw [if_neg hu]) $$ H12
    rw [ht]
    sl_exec (disch := first | sl_exact h5)
    sl_step
    iapply HQ
    isplitl [HR]; · iexact HR
    isplitl [HT]; · iexact HT
    isplitl [HK]; · iexact HK
    isplitl [HO]; · iexact HO
    isplitl [H6]; · iexact H6
    isplitl [H7]; · iexact H7
    isplitl [H8]; · iexact H8
    isplitl [H9]; · iexact H9
    isplitl [H10]; · iexact H10
    isplitl [H11]; · iexact H11
    iexact H12

end Cert.Kernel2Ideal.Gen
-- ==== Proof.RunIdeal.lean ====
module

public import proofs.«01_k».proof.Proof.StepIdeal
public import proofs.«01_k».proof.Proof.Gen.Kernel2Ideal.Launch
public import Idealize.ShloMosaic.Lib.Pipeline.FrameBody

/-! The launch of the expert kernel: the region's proof data, the body obligation, the run and the frame. -/

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-! ## The host's part -/

/-- The buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host writes none of its arguments. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, Finset.mem_singleton]
    repeat' apply And.intro
    all_goals exact StableHlo.devRef_ne_of_ne (by decide)))

/-! ## The tables -/

/-- The tables' contents. -/
def tbl : pre0.Contents (Elt F) := fun j => V m (0 : Dev nD) (pre0.ref j)
theorem V_pre (c : Dev nD) (j : Fin 4) : V m c (pre0.ref j) = tbl m j := by
  obtain rfl : c = 0 := Subsingleton.elim _ _; rfl
/-- The tables and the tokens, as functions of their indices. -/
def tabX : S55296.Idx → Elt F .i32 := tbl m 0
def tabR : S216.Idx → BitVec 32 := tbl (F := F) m 3
def toks (c : Dev nD) : S49152x2176.Idx → Elt F .f32 := V m c main_arg4
/-- The token of a tile's row. -/
def tokAt (X : S55296.Idx → BitVec 32) (j : ℕ) (r : Fin 256) : Fin 49152 :=
  ⟨(X fun | ⟨0, _⟩ => (⟨(256 * j + r.val) % 55296, Nat.mod_lt _ (by omega)⟩ : Fin 55296)).toNat % 49152, Nat.mod_lt _ (by omega)⟩
abbrev gOf : ℕ → Fin 256 → Fin 49152 := tokAt (tabX (F := F) m)

/-- What the tables have to satisfy: every tile's experts exist, every row's token exists, and a used tile follows a used one
    three tiles before. -/
structure Ok : Prop where
  ok : ok0 (F := F) (tbl m)
  names : Names (F := F) (gOf m) (tabX m)
  runs : ∀ n, n < 216 → used (rowAt (tabR m) n) → issued (tabR m) n

abbrev adm (hO : Ok m) : (pcfg0 (F := F)).Adm := ⟨tbl m, hO.ok⟩
abbrev cfgM (hO : Ok m) : Pipeline.Cfg sig Λ₀ := cfg0 (adm m hO)

/-- Half of a table the kernel's body does not read. -/
abbrev halfPt (c : Dev nD) (b : Ref sig .tc) : sProp 𝕄 := ((c : Thread nD τ).loc b) ↦{fullShare.right} V m c b

theorem PhiT0_eq (c : Dev nD) : (Pipeline.ΦT pre0 (tbl m) c : sProp 𝕄)
    = iprop(tPt c (tabX m) fullShare.right ∗ halfPt m c main_arg1 ∗ halfPt m c main_arg2 ∗ rPt c (tabR m) fullShare.right) := by
  obtain rfl : c = 0 := Subsingleton.elim _ _
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The blocks -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UD sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UD sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UD sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## Every window is live at every point -/

theorem liveAt0_0 (hO : Ok m) : ∀ t : Fin (cfgM m hO).N, (cfgM m hO).idle 0 ((cfgM m hO).grid.coords t) = false := fun _ => rfl
theorem liveAt0_1 (hO : Ok m) : ∀ t : Fin (cfgM m hO).N, (cfgM m hO).idle 1 ((cfgM m hO).grid.coords t) = false := fun _ => rfl
theorem liveAt0_2 (hO : Ok m) : ∀ t : Fin (cfgM m hO).N, (cfgM m hO).idle 2 ((cfgM m hO).grid.coords t) = false := fun _ => rfl
theorem liveAt0_3 (hO : Ok m) : ∀ t : Fin (cfgM m hO).N, (cfgM m hO).idle 3 ((cfgM m hO).grid.coords t) = false := fun _ => rfl
theorem liveAt0_4 (hO : Ok m) : ∀ t : Fin (cfgM m hO).N, (cfgM m hO).idle 4 ((cfgM m hO).grid.coords t) = false := fun _ => rfl
theorem liveAt0_5 (hO : Ok m) : ∀ t : Fin (cfgM m hO).N, (cfgM m hO).idle 5 ((cfgM m hO).grid.coords t) = false := fun _ => rfl
theorem used_or (v : BitVec 32) : (!(k0_cond4 v == 1#1) && !(k0_cond5 v == 1#1)) = false := by
  by_cases h : used v
  · rw [beq_iff_eq.mpr ((cond5_iff v).mpr h)]; simp
  · rw [beq_iff_eq.mpr ((cond4_iff v).mpr h)]; simp
theorem liveAt0_6 (hO : Ok m) : ∀ t : Fin (cfgM m hO).N, (cfgM m hO).idle 6 ((cfgM m hO).grid.coords t) = false := fun _ => used_or _
abbrev ms0_0 (hO : Ok m) (t : Fin (cfgM m hO).N) : Memref sig .tc .vmem S1x2048x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x512x2048 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2048x512 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x2048x512 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x512x2048 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S256x2048 .f32 := spec0_6.stage ((cfgM m hO).slots t 6)
abbrev hs0_6 (hO : Ok m) (t : Fin (cfgM m hO).N) : (ms0_6 m hO t).IsWhole := hstage0_6 (((cfgM m hO).slots t 6).cast nbuf0_6)

/-! ## The proof data -/

/-- What is held between two points. -/
def Phi (c : Dev nD) (n : ℕ) : sProp 𝕄 :=
  iprop(ring c (toks m c) (gOf m) (before (tabR m) n) ∗ tPt c (tabX m) fullShare.right ∗ rPt c (tabR m) fullShare.right
    ∗ (∃ r, prngReg c r) ∗ hPt c (toks m c) Finset.univ (Transfers.shareDrop fullShare 4))

def dats (hO : Ok m) (_ : Fin 1) (c : Dev nD) : Dat τ (Elt F) Unit ℕ (UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => tileOut (toks m c) (gOf m) (tabR m) t.val (iblk m hO c 0 t) (iblk m hO c 1 t) (iblk m hO c 3 t) (iblk m hO c 4 t) (iblk m hO c 2 t) (iblk m hO c 5 t)
  Φ t := Phi m c t.val
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem after0_1 (hO : Ok m) (c : Dev nD) (t : Fin (cfgM m hO).N) : (dats m hO 0 c).after 1 t = iblk m hO c 1 t := by dsimp only [dats]; try rfl
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem after0_2 (hO : Ok m) (c : Dev nD) (t : Fin (cfgM m hO).N) : (dats m hO 0 c).after 2 t = iblk m hO c 2 t := by dsimp only [dats]; try rfl
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem after0_3 (hO : Ok m) (c : Dev nD) (t : Fin (cfgM m hO).N) : (dats m hO 0 c).after 3 t = iblk m hO c 3 t := by dsimp only [dats]; try rfl
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem after0_4 (hO : Ok m) (c : Dev nD) (t : Fin (cfgM m hO).N) : (dats m hO 0 c).after 4 t = iblk m hO c 4 t := by dsimp only [dats]; try rfl
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem after0_5 (hO : Ok m) (c : Dev nD) (t : Fin (cfgM m hO).N) : (dats m hO 0 c).after 5 t = iblk m hO c 5 t := by dsimp only [dats]; try rfl
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem after0_6 (hO : Ok m) (c : Dev nD) (t : Fin (cfgM m hO).N) : (dats m hO 0 c).after 6 t
    = tileOut (toks m c) (gOf m) (tabR m) t.val (iblk m hO c 0 t) (iblk m hO c 1 t) (iblk m hO c 3 t) (iblk m hO c 4 t) (iblk m hO c 2 t) (iblk m hO c 5 t) := by dsimp only [dats]; try rfl

/-! ## The body obligation -/

def bodyAt0 (hO : Ok m) (t : Fin (cfgM m hO).N) : Prog (TpuEff nD τ sig (Elt F) Λ₀ .tc) PUnit :=
  cc0_moe (F := F) (grid0.coords t) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (Memref.whole cc0_scratch0) (Memref.isWhole_whole _) cc0_scratch1

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t)

/-- The core owes nothing at a point. -/
theorem owes_open (hO : Ok m) (c : Dev nD) (t : Fin ((cfgM m hO).N + 1)) : (dats m hO 0 c).owesAt () t ⊢ (∃ W, owes (c : Thread nD τ) 0 W : sProp 𝕄) := by
  show Pipeline.owesWithin c 0 _ ⊢ _
  unfold Pipeline.owesWithin
  iintro ⟨%W, %h, H⟩; iexists W; iexact H
theorem owes_close (hO : Ok m) (c : Dev nD) (t : Fin ((cfgM m hO).N + 1)) : (∃ W, owes (c : Thread nD τ) 0 W : sProp 𝕄) ⊢ (dats m hO 0 c).owesAt () t := by
  show _ ⊢ Pipeline.owesWithin c 0 _
  unfold Pipeline.owesWithin
  iintro ⟨%W, H⟩; iexists W
  isplitr [H]; · ipureintro; exact fun x _ => Or.inl (Set.mem_univ x)
  iexact H

theorem coords_val (t : Fin grid0.N) : ((grid0.coords t) 0).val = t.val := (by decide +kernel : ∀ t : Fin grid0.N, ((grid0.coords t) 0).val = t.val) t

theorem leaves0_0 (hO : Ok m) (c : Dev nD) (t : Fin (cfgM m hO).N) : (dats m hO 0 c).leavesExact 0 t = owns (c : Thread nD τ) (ms0_0 m hO t) fullShare ((dats m hO 0 c).after 0 t) := by
  unfold Dat.leavesExact; rw [liveAt0_0 m hO t]; try rfl
theorem leaves0_1 (hO : Ok m) (c : Dev nD) (t : Fin (cfgM m hO).N) : (dats m hO 0 c).leavesExact 1 t = owns (c : Thread nD τ) (ms0_1 m hO t) fullShare ((dats m hO 0 c).after 1 t) := by
  unfold Dat.leavesExact; rw [liveAt0_1 m hO t]; try rfl
theorem leaves0_2 (hO : Ok m) (c : Dev nD) (t : Fin (cfgM m hO).N) : (dats m hO 0 c).leavesExact 2 t = owns (c : Thread nD τ) (ms0_2 m hO t) fullShare ((dats m hO 0 c).after 2 t) := by
  unfold Dat.leavesExact; rw [liveAt0_2 m hO t]; try rfl
theorem leaves0_3 (hO : Ok m) (c : Dev nD) (t : Fin (cfgM m hO).N) : (dats m hO 0 c).leavesExact 3 t = owns (c : Thread nD τ) (ms0_3 m hO t) fullShare ((dats m hO 0 c).after 3 t) := by
  unfold Dat.leavesExact; rw [liveAt0_3 m hO t]; try rfl
theorem leaves0_4 (hO : Ok m) (c : Dev nD) (t : Fin (cfgM m hO).N) : (dats m hO 0 c).leavesExact 4 t = owns (c : Thread nD τ) (ms0_4 m hO t) fullShare ((dats m hO 0 c).after 4 t) := by
  unfold Dat.leavesExact; rw [liveAt0_4 m hO t]; try rfl
theorem leaves0_5 (hO : Ok m) (c : Dev nD) (t : Fin (cfgM m hO).N) : (dats m hO 0 c).leavesExact 5 t = owns (c : Thread nD τ) (ms0_5 m hO t) fullShare ((dats m hO 0 c).after 5 t) := by
  unfold Dat.leavesExact; rw [liveAt0_5 m hO t]; try rfl
theorem leaves0_6 (hO : Ok m) (c : Dev nD) (t : Fin (cfgM m hO).N) : (dats m hO 0 c).leavesExact 6 t = owns (c : Thread nD τ) (ms0_6 m hO t) fullShare ((dats m hO 0 c).after 6 t) := by
  unfold Dat.leavesExact; rw [liveAt0_6 m hO t]; try rfl

set_option maxHeartbeats 1600000 in
theorem sound_body (hO : Ok m) (c : Dev nD) (t : Fin (cfgM m hO).N) :
    bodyPre m hO c t ⊢ wp frame (wpE (defs₀ (F := F)) Variants.none c none) Set.univ (bodyAt0 m hO t) (fun _ => bodyPost m hO c t) := by
  unfold bodyPre bodyPost bodyAt0
  simp only [before0_0, before0_1, before0_2, before0_3, before0_4, before0_5]
  rw [leaves0_0, leaves0_1, leaves0_2, leaves0_3, leaves0_4, leaves0_5, leaves0_6, after0_0, after0_1, after0_2, after0_3, after0_4, after0_5, after0_6]
  rw [show (dats m hO 0 c).Φ t.castSucc = Phi m c t.val from rfl, show (dats m hO 0 c).Φ t.succ = Phi m c (t.val + 1) from rfl]
  have hv : ((grid0.coords t) 0).val = t.val := coords_val t
  have hN : t.val < 216 := lt_of_lt_of_eq t.isLt (show (cfgM m hO).N = 216 from N_0)
  have S := step (F := F) c (toks m c) (gOf m) (tabX m) (tabR m) fullShare.right fullShare.right (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) hO.names (hv ▸ hN) (hv ▸ hO.runs t.val hN) (iblk m hO c 0 t) (iblk m hO c 1 t) (iblk m hO c 3 t) (iblk m hO c 4 t) (iblk m hO c 2 t) (iblk m hO c 5 t)
    (Q := fun _ => iprop(Phi m c (t.val + 1) ∗ (dats m hO 0 c).owesAt () t.succ
    ∗ owns (c : Thread nD τ) (ms0_0 m hO t) fullShare (iblk m hO c 0 t)
    ∗ owns (c : Thread nD τ) (ms0_1 m hO t) fullShare (iblk m hO c 1 t)
    ∗ owns (c : Thread nD τ) (ms0_2 m hO t) fullShare (iblk m hO c 2 t)
    ∗ owns (c : Thread nD τ) (ms0_3 m hO t) fullShare (iblk m hO c 3 t)
    ∗ owns (c : Thread nD τ) (ms0_4 m hO t) fullShare (iblk m hO c 4 t)
    ∗ owns (c : Thread nD τ) (ms0_5 m hO t) fullShare (iblk m hO c 5 t)
    ∗ owns (c : Thread nD τ) (ms0_6 m hO t) fullShare (tileOut (toks m c) (gOf m) (tabR m) t.val (iblk m hO c 0 t) (iblk m hO c 1 t) (iblk m hO c 3 t) (iblk m hO c 4 t) (iblk m hO c 2 t) (iblk m hO c 5 t))))
  rw [hv] at S
  refine BIBase.Entails.trans ?_ S
  unfold Phi
  iintro ⟨⟨HR, HT, HU, Hg, Hh⟩, HO, ⟨%d0, H0⟩, ⟨%d1, H1⟩, ⟨%d2, H2⟩, ⟨%d3, H3⟩, ⟨%d4, H4⟩, ⟨%d5, H5⟩, ⟨%d6, H6⟩⟩
  isplitl [HR]; · iexact HR
  isplitl [HT]; · iexact HT
  isplitl [HU]; · iexact HU
  isplitl [HO]; · iapply (owes_open m hO c t.castSucc); iexact HO
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨HR, HT, HU, HO, H0, H1, H2, H3, H4, H5, H6⟩
  isplitl [HR HT HU Hg Hh]
  · isplitl [HR]; · iexact HR
    isplitl [HT]; · iexact HT
    isplitl [HU]; · iexact HU
    isplitl [Hg]; · iexact Hg
    iexact Hh
  isplitl [HO]; · iapply (owes_close m hO c t.succ); iexact HO
  isplitl [H0]; · iexact H0
  isplitl [H1]; · iexact H1
  isplitl [H2]; · iexact H2
  isplitl [H3]; · iexact H3
  isplitl [H4]; · iexact H4
  isplitl [H5]; · iexact H5
  iexact H6

theorem defs₀_row (hO : Ok m) (t : Fin (cfgM m hO).N) :
    defs₀ (F := F) .tc (cfgM m hO).body ((cfgM m hO).bodyArgs t ((cfgM m hO).slots t)) = bodyAt0 m hO t := by
  unfold defs₀; rw [Defs.onTc_tc]; rfl

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## Entering and leaving the region -/

abbrev osem : Fin 4 → SemLoc sig := fun s => SemLoc.dma (cellM s)
theorem ownFacts : Pipeline.OwnSemFacts spec0 osem := by decide

theorem bPt_slots (c : Dev nD) (f : S4x256x2176.Idx → Elt F .f32) : (bPt c Finset.univ f : sProp 𝕄) = bigSep Finset.univ fun s : Fin 4 => bPt c (slotSet s) f := by
  unfold bPt
  exact Ring.pointsTo_sub_blocks (ℓ := (c : Thread nD τ).loc cc0_scratch0) slotSet slotSet_disjoint Finset.univ slotSet_cover (q := fullShare) f
theorem bPt_join (c : Dev nD) (f₀ : S4x256x2176.Idx → Elt F .f32) : (bigSep Finset.univ fun s : Fin 4 => iprop(∃ f, bPt c (slotSet s) f)) ⊢ (iprop(∃ f, bPt c Finset.univ f) : sProp 𝕄) := by
  unfold bPt
  exact Ring.pointsTo_sub_blocks_join_exists (ℓ := (c : Thread nD τ).loc cc0_scratch0) slotSet slotSet_disjoint Finset.univ slotSet_cover (q := fullShare) f₀
theorem hPt_slots (c : Dev nD) (H : S49152x2176.Idx → Elt F .f32) :
    (hPt c H Finset.univ fullShare : sProp 𝕄) ⊣⊢ iprop(hPt c H Finset.univ (Transfers.shareDrop fullShare 4) ∗ bigSep Finset.univ fun s : Fin 4 => hPt c H Finset.univ (slotShare s)) := by
  have e : bigSep (Finset.range 4) (fun i => (hPt c H Finset.univ (Transfers.shareTokN fullShare i) : sProp 𝕄))
      = bigSep Finset.univ fun s : Fin 4 => hPt c H Finset.univ (slotShare s) := by
    rw [← Ring.rangeSet_univ]
    exact (Ring.bigSep_rangeSet_eq_range (NB := 4) (lo := 0) (hi := 4) (Φ := fun s : Fin 4 => (hPt c H Finset.univ (slotShare s) : sProp 𝕄)) le_rfl
      (fun i => hPt c H Finset.univ (Transfers.shareTokN fullShare i)) (fun k hk => by show hPt c H Finset.univ (Transfers.shareTokN fullShare k) = hPt c H Finset.univ (Transfers.shareTokN fullShare (0 + k)); rw [Nat.zero_add])).symm
  rw [← e]
  exact Transfers.pointsTo_toks_range fullShare 4

/-- With nothing in flight the slots are the buffer, the semaphores at zero and the tokens' shares. -/
theorem ring_none (c : Dev nD) (H : S49152x2176.Idx → Elt F .f32) (g : ℕ → Fin 256 → Fin 49152) :
    ring c H g (fun _ => none) = iprop(bigSep Finset.univ (fun s : Fin 4 => cellPt c s) ∗ bigSep Finset.univ (fun s : Fin 4 => (iprop(∃ f, bPt c (slotSet s) f) : sProp 𝕄))
      ∗ bigSep Finset.univ fun s : Fin 4 => hPt c H Finset.univ (slotShare s)) := by
  show (bigSep Finset.univ fun s : Fin 4 => iprop(cellPt c s ∗ (∃ f, bPt c (slotSet s) f) ∗ hPt c H Finset.univ (slotShare s))) = _
  rw [show (bigSep Finset.univ fun s : Fin 4 => (iprop(cellPt c s ∗ (∃ f, bPt c (slotSet s) f) ∗ hPt c H Finset.univ (slotShare s)) : sProp 𝕄)) = _ from BI.bigSep_sep _ _ _]
  congr 1
  exact BI.bigSep_sep _ _ _

theorem before_last (R : S216.Idx → BitVec 32) : before R 216 = fun _ => none := by
  funext s; unfold before; rw [if_neg]; rintro ⟨_, _, h, _⟩; unfold tileOf at h; omega

theorem PhiD0_eq (c : Dev nD) : (Pipeline.ΦD osem spec0 {main_arg4} (V m) c : sProp 𝕄)
    = iprop((∃ f, bPt c Finset.univ f) ∗ (∃ r, prngReg c r) ∗ (bigSep Finset.univ fun s : Fin 4 => cellPt c s) ∗ hPt c (toks m c) Finset.univ fullShare) := by
  rw [Pipeline.ΦD_eq, scopedRest0_eq, bigSep_singleton]; rfl

theorem enter (c : Dev nD) : iprop(Pipeline.ΦD osem spec0 {main_arg4} (V m) c ∗ Pipeline.ΦT pre0 (tbl m) c) ⊢ Phi m c 0 := by
  rw [PhiD0_eq, PhiT0_eq]; unfold Phi; rw [before_zero, ring_none]
  iintro ⟨⟨⟨%f, Hb⟩, Hg, Hc, Hh⟩, HT, H1, H2, HU⟩
  ihave Hh := (hPt_slots c (toks m c)).1 $$ Hh
  icases Hh with ⟨Hr, Hh⟩
  ihave Hb := (Entails.of_eq (bPt_slots c f)) $$ Hb
  isplitl [Hb Hc Hh]
  · isplitl [Hc]; · iexact Hc
    isplitl [Hb]
    · iapply (show (bigSep Finset.univ fun s : Fin 4 => bPt c (slotSet s) f) ⊢ bigSep Finset.univ fun s : Fin 4 => (iprop(∃ f, bPt c (slotSet s) f) : sProp 𝕄) from
        BI.bigSep_mono fun s _ => (show bPt c (slotSet s) f ⊢ (iprop(∃ f, bPt c (slotSet s) f) : sProp 𝕄) by iintro Hx; iexists f; iexact Hx))
      iexact Hb
    iexact Hh
  isplitl [HT]; · iexact HT
  isplitl [HU]; · iexact HU
  isplitl [Hg]; · iexact Hg
  iexact Hr

theorem leave (c : Dev nD) : Phi m c 216 ⊢ Pipeline.ΦD osem spec0 {main_arg4} (V m) c := by
  rw [PhiD0_eq]; unfold Phi; rw [before_last, ring_none]
  iintro ⟨⟨Hc, Hb, Hh⟩, HT, HU, Hg, Hr⟩
  isplitl [Hb]
  · iapply (bPt_join c (fun y => rowsOf (toks m c) (gOf m) 0 y)); iexact Hb
  isplitl [Hg]; · iexact Hg
  isplitl [Hc]; · iexact Hc
  iapply (hPt_slots c (toks m c)).2
  isplitl [Hr]; · iexact Hr
  iexact Hh

/-! ## The run and the frame -/

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_dma_shared (Q' := _) pcfgs (fun _ => adm m hO) (dats m hO) (0 : Fin 1) launch₀0 osem defs₀ Variants.none ownFacts {main_arg4} (show {main_arg4} ⊆ Pipeline.restRefsP sig pre0 spec0 by decide) m ρ main
    (hbody := fun c => (body_obligation m hO c).loose) (hq := fun _ _ _ => rfl)
    (howed := fun _ _ => rfl) (V := V m) (hmain := hmain m Variants.none) (hA := A_eq m hO) (hpf := V_pre m)
    (hin := enter m) (hout := fun c => (show (dats m hO 0 c).Φ (Fin.last (cfgM m hO).N) ⊢ Pipeline.ΦD osem spec0 {main_arg4} (V m) c by
      rw [show (dats m hO 0 c).Φ (Fin.last (cfgM m hO).N) = Phi m c 216 from congrArg (Phi m c) (show (cfgM m hO).N = 216 from N_0)]; exact leave m c))

theorem frame (hO : Ok m) : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (by decide : main_arg0 ∈ Pipeline.restRefs sig spec0)).trans (V_main_arg0 m c),
    ((h.1 c).2 main_arg1 (by decide : main_arg1 ∈ Pipeline.restRefs sig spec0)).trans (V_main_arg1 m c),
    ((h.1 c).2 main_arg2 (by decide : main_arg2 ∈ Pipeline.restRefs sig spec0)).trans (V_main_arg2 m c),
    ((h.1 c).2 main_arg3 (by decide : main_arg3 ∈ Pipeline.restRefs sig spec0)).trans (V_main_arg3 m c),
    ((h.1 c).2 main_arg4 (by decide : main_arg4 ∈ Pipeline.restRefs sig spec0)).trans (V_main_arg4 m c),
    ((h.1 c).2 main_arg5 (by decide : main_arg5 ∈ Pipeline.restRefs sig spec0)).trans (V_main_arg5 m c),
    ((h.1 c).2 main_arg6 (by decide : main_arg6 ∈ Pipeline.restRefs sig spec0)).trans (V_main_arg6 m c),
    ((h.1 c).2 main_arg7 (by decide : main_arg7 ∈ Pipeline.restRefs sig spec0)).trans (V_main_arg7 m c)⟩, h.2⟩) (run_main_quiescent m ρ hO)

end Cert.Kernel2Ideal.Gen

end
-- ==== Proof.AdmitIdeal.lean ====
/- The idealized expert kernel's side conditions follow from its precondition. -/
module

public import proofs.«01_k».proof.Proof.Routed
public import proofs.«01_k».proof.Proof.RunIdeal

@[expose] public section

set_option maxRecDepth 16384

noncomputable section

namespace Cert.Kernel2Ideal.Gen

open Cert.Kernel2Ideal Idealize.ShloMosaic Idealize.ShloMosaic.TcCoe Idealize.SL.Sem

variable {F : FTy → Type} [FloatOps F] (m : (ℓ : Loc nD τ sig) → Buf (Elt F) ℓ)

theorem tbl0 : tbl m 0 = m (((0 : Dev nD) : Thread nD τ).loc main_arg0) := V_main_arg0 m 0
theorem tbl1 : tbl m 1 = m (((0 : Dev nD) : Thread nD τ).loc main_arg1) := V_main_arg1 m 0
theorem tbl2 : tbl m 2 = m (((0 : Dev nD) : Thread nD τ).loc main_arg2) := V_main_arg2 m 0
theorem tbl3 : tbl m 3 = m (((0 : Dev nD) : Thread nD τ).loc main_arg3) := V_main_arg3 m 0

/-- A block whose number along the first axis is below 16, and that is whole along the others, is inside its array. -/
theorem block_ok {ix : Fin 3 → ℕ} {p q : ℕ} {x : BitVec 32} (h : x.toNat < 16) (e : ix = ![x.toNat, 0, 0]) :
    ∃ hb : ∀ a, (ix a + 1) * (⟨3, ![1, p, q]⟩ : Shape).size a ≤ (⟨3, ![16, p, q]⟩ : Shape).size a,
      EltTy.bits .bf16 = 32 ∨ (Rect.block (s := ⟨3, ![16, p, q]⟩) (⟨3, ![1, p, q]⟩ : Shape).size ix hb).WholeWords (EltTy.packing .bf16) := by
  subst e
  refine ⟨fun a => ?_, Or.inr (Or.inr ⟨by show 2 ≤ 3; omega, rfl, ?_, rfl⟩)⟩
  · match a with
    | ⟨0, _⟩ => show (x.toNat + 1) * 1 ≤ 16; omega
    | ⟨1, _⟩ => show (0 + 1) * p ≤ p; omega
    | ⟨2, _⟩ => show (0 + 1) * q ≤ q; omega
  · show 0 * p = 0
    omega

/-- Every block a table names is inside its array. -/
theorem ok0_of (pf : pre0.Contents (Elt F)) (ha : ∀ i, (pf 1 i : BitVec 32).toNat < 16) (hb : ∀ i, (pf 2 i : BitVec 32).toNat < 16) : ok0 pf :=
  ⟨fun i => block_ok (ha _) rfl,
   fun i => block_ok (ha _) rfl,
   fun i => block_ok (ha _) rfl,
   fun i => block_ok (hb _) rfl,
   fun i => block_ok (hb _) rfl,
   fun i => block_ok (hb _) rfl⟩

/-- The kernel's side conditions, from the tables' elements. -/
theorem ok_of (hs : ∀ i, (tbl m 0 i : BitVec 32).toNat < 49152) (ha : ∀ i, (tbl m 1 i : BitVec 32).toNat < 16) (hb : ∀ i, (tbl m 2 i : BitVec 32).toNat < 16)
    (hr : ∀ j : Fin 213, ¬ used (rowAt (tabR m) (j.val + 3)) ∨ used (rowAt (tabR m) j.val)) : Ok m where
  ok := ok0_of (tbl m) ha hb
  names := by
    intro j hj r y hy
    have e : y = (fun | ⟨0, _⟩ => (⟨(256 * j + r.val) % 55296, Nat.mod_lt _ (by omega)⟩ : Fin 55296)) := by
      funext k
      match k with
      | ⟨0, _⟩ => exact Fin.ext (hy.trans (Nat.mod_eq_of_lt (by omega)).symm)
    rw [e]
    exact (Nat.mod_eq_of_lt (hs _)).symm
  runs := by
    intro n hn hu
    by_cases h3 : n < 3
    · exact Or.inl h3
    · refine Or.inr ?_
      rcases hr ⟨n - 3, by omega⟩ with h | h
      · exact absurd ((show n = n - 3 + 3 by omega) ▸ hu) h
      · exact h

/-- The kernel's side conditions, from the precondition. -/
theorem ok_of_pre (hp : ∀ c : Dev nD, @Cert.Pre_routed.fn Cert.Pre_routed.facts F _ (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) = fun _ => 1#1) : Ok m := by
  obtain ⟨hs, ha, hb, -, hr⟩ := @Cert.Pre_routed.reads Cert.Pre_routed.facts F _ _ _ _ _ _ _ _ _ (hp 0)
  refine ok_of m ?_ ?_ ?_ ?_
  · rw [tbl0]; exact hs
  · rw [tbl1]; exact ha
  · rw [tbl2]; exact hb
  · intro j
    have e : ∀ n (h : n < 216), rowAt (tabR m) n = m (((0 : Dev nD) : Thread nD τ).loc main_arg3) (fun | ⟨0, _⟩ => (⟨n, h⟩ : Fin 216)) := by
      intro n h
      unfold rowAt tabR
      rw [tbl3]
      refine congrArg _ (funext fun k => ?_)
      match k with
      | ⟨0, _⟩ => exact Fin.ext (Nat.mod_eq_of_lt h)
    rw [e _ (by omega), e _ (by omega)]
    exact hr j

end Cert.Kernel2Ideal.Gen

end
-- ==== Proof.Payload.lean ====
/- What the expert kernel's body computes from a tile of rows and the blocks of two experts, read at an element. -/
module

public import proofs.«01_k».proof.Proof.Gen.Kernel2Ideal.Skeleton
public import Idealize.ShloMosaic.Lib.Pipeline.ValueKit

@[expose] public section

set_option maxRecDepth 16384

noncomputable section

namespace Cert.Kernel2Ideal.Value

open Cert.Kernel2Ideal Cert.Kernel2Ideal.Gen Idealize.ShloMosaic Idealize.ShloMosaic.TcCoe

/-- The gated product of a row with an expert's two first matrices. -/
theorem act_at (h : Vec Ideal S1x256x2048 .f32) (x y : Vec Ideal S1x2048x512 .bf16) (r : Fin 256) (f : Fin 512) :
    k0_pay5 (F := Ideal) h x y (ix2 r f)
      = (∑ d : Fin 2048, h (ix3 0 r d) * x (ix3 0 d f)) * Ideal.logistic (∑ d : Fin 2048, h (ix3 0 r d) * x (ix3 0 d f))
        * ∑ d : Fin 2048, h (ix3 0 r d) * y (ix3 0 d f) := by
  pointwise [k0_pay5, k0_pay2]

/-- The first expert's part of a tile. -/
theorem first_at (h : Vec Ideal S1x256x2048 .f32) (w : Vec Ideal S1x256x128 .f32) (x y : Vec Ideal S1x2048x512 .bf16)
    (z : Vec Ideal S1x512x2048 .bf16) (r : Fin 256) (j : Fin 2048) :
    k0_pay4 (F := Ideal) h w x y z (ix2 r j)
      = (∑ f : Fin 512, k0_pay5 (F := Ideal) h x y (ix2 r f) * z (ix3 0 f j)) * w (ix3 0 r 0) := by
  pointwise [k0_pay4, k0_pay5, k0_pay2, k0_pay3]

/-- The second expert's part is added to the first's. -/
theorem both_at (w : FVec Ideal S256x128 .f32) (u : FVec Ideal S256x2048 .f32) (a : FVec Ideal S256x512 .bf16)
    (z : Vec Ideal S1x512x2048 .bf16) (r : Fin 256) (j : Fin 2048) :
    k0_pay1 (F := Ideal) w u a z (ix2 r j) = u (ix2 r j) + (∑ f : Fin 512, a (ix2 r f) * z (ix3 0 f j)) * w (ix2 r 1) := by
  pointwise [k0_pay1]

/-- The weights of a tile's rows. -/
theorem weight_at (w : Vec Ideal S1x256x128 .f32) (r : Fin 256) (l : Fin 128) : k0_pay3 (F := Ideal) w (ix2 r l) = w (ix3 0 r l) := by
  pointwise [k0_pay3]

/-- An unused tile is left zero. -/
theorem unused_at (r : Fin 256) (j : Fin 2048) : k0_pay6 (F := Ideal) (ix2 r j) = 0 := by
  pointwise [k0_pay6]

end Cert.Kernel2Ideal.Value

end
-- ==== Proof.Tiles.lean ====
/- The expert kernel's result: a grid point's blocks are the tables' experts, its rows the tables' tokens, and what it
   leaves in its tile is the reference's result there. -/
module

public import proofs.«01_k».proof.Proof.Payload
public import proofs.«01_k».proof.Proof.Experts
public import proofs.«01_k».proof.Proof.AdmitIdeal
public import Idealize.ShloMosaic.Lib.Pipeline.ValueKit

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)
open Cert.Reference2Ideal.Value (REF REF_at expert)

variable (m : (ℓ : Loc nD τ sig) → Buf (Elt Ideal) ℓ)

/-- Every row's token. -/
abbrev argS (c : Dev nD) : IVec S55296 32 := m ((c : Thread nD τ).loc main_arg0)
/-- Every tile's first expert. -/
abbrev argA (c : Dev nD) : IVec S216 32 := m ((c : Thread nD τ).loc main_arg1)
/-- Every tile's second expert. -/
abbrev argB (c : Dev nD) : IVec S216 32 := m ((c : Thread nD τ).loc main_arg2)
/-- Every tile's number of rows. -/
abbrev argR (c : Dev nD) : IVec S216 32 := m ((c : Thread nD τ).loc main_arg3)
/-- The tokens, their two weights beside them. -/
abbrev argH (c : Dev nD) : FVec Ideal S49152x2176 .f32 := m ((c : Thread nD τ).loc main_arg4)
/-- The experts' first matrices. -/
abbrev argW1 (c : Dev nD) : FVec Ideal S16x2048x512 .f32 := m ((c : Thread nD τ).loc main_arg5)
/-- The experts' second matrices. -/
abbrev argW3 (c : Dev nD) : FVec Ideal S16x2048x512 .f32 := m ((c : Thread nD τ).loc main_arg6)
/-- The experts' last matrices. -/
abbrev argW2 (c : Dev nD) : FVec Ideal S16x512x2048 .f32 := m ((c : Thread nD τ).loc main_arg7)

/-! ## The blocks' places -/

/-- A one-element read of a table at a grid point is at the point's number. -/
theorem entry (t : Fin grid0.N) (k : (Rect.unit (s := S216) ![(BitVec.ofNat 32 ((grid0.coords t) 0).val : BitVec 32).toNat] S1.size (k0_off1_inb (grid0.coords t))).shape.Idx) :
    (Rect.unit (s := S216) ![(BitVec.ofNat 32 ((grid0.coords t) 0).val : BitVec 32).toNat] S1.size (k0_off1_inb (grid0.coords t))).emb k
      = (ix1 ⟨t.val, lt_of_lt_of_eq t.isLt N_0⟩ : S216.Idx) := by
  have ht : t.val < 216 := lt_of_lt_of_eq t.isLt N_0
  funext a
  match a with
  | ⟨0, _⟩ =>
    refine Fin.ext ?_
    have hk : (k ⟨0, Nat.one_pos⟩).val < 1 := (k ⟨0, Nat.one_pos⟩).isLt
    have hb : (BitVec.ofNat 32 ((grid0.coords t) 0).val : BitVec 32).toNat = t.val := by
      rw [coords_val, BitVec.toNat_ofNat]; omega
    show (BitVec.ofNat 32 ((grid0.coords t) 0).val : BitVec 32).toNat + 1 * (k ⟨0, Nat.one_pos⟩).val = t.val
    omega

/-- The expert a table names at a grid point. -/
theorem index_of (X : S216.Idx → BitVec 32) (t : Fin grid0.N) (e : Fin 16) (he : e.val = (X (ix1 ⟨t.val, lt_of_lt_of_eq t.isLt N_0⟩)).toNat)
    (k : (Rect.unit (s := S216) ![(BitVec.ofNat 32 ((grid0.coords t) 0).val : BitVec 32).toNat] S1.size (k0_off1_inb (grid0.coords t))).shape.Idx) :
    (![(X ((Rect.unit (s := S216) ![(BitVec.ofNat 32 ((grid0.coords t) 0).val : BitVec 32).toNat] S1.size (k0_off1_inb (grid0.coords t))).emb k)).toNat, 0, 0] : Fin 3 → ℕ)
      = ![e.val, 0, 0] := by
  rw [entry t k, he]

variable (hO : Ok m)

theorem index0 (t : Fin grid0.N) (e : Fin 16) (he : e.val = (tbl m 1 (ix1 ⟨t.val, lt_of_lt_of_eq t.isLt N_0⟩ : S216.Idx) : BitVec 32).toNat) :
    ((cfgM m hO).win 0).index t = ![e.val, 0, 0] := index_of (tbl m 1) t e he _
theorem index1 (t : Fin grid0.N) (e : Fin 16) (he : e.val = (tbl m 1 (ix1 ⟨t.val, lt_of_lt_of_eq t.isLt N_0⟩ : S216.Idx) : BitVec 32).toNat) :
    ((cfgM m hO).win 1).index t = ![e.val, 0, 0] := index_of (tbl m 1) t e he _
theorem index2 (t : Fin grid0.N) (e : Fin 16) (he : e.val = (tbl m 1 (ix1 ⟨t.val, lt_of_lt_of_eq t.isLt N_0⟩ : S216.Idx) : BitVec 32).toNat) :
    ((cfgM m hO).win 2).index t = ![e.val, 0, 0] := index_of (tbl m 1) t e he _
theorem index3 (t : Fin grid0.N) (e : Fin 16) (he : e.val = (tbl m 2 (ix1 ⟨t.val, lt_of_lt_of_eq t.isLt N_0⟩ : S216.Idx) : BitVec 32).toNat) :
    ((cfgM m hO).win 3).index t = ![e.val, 0, 0] := index_of (tbl m 2) t e he _
theorem index4 (t : Fin grid0.N) (e : Fin 16) (he : e.val = (tbl m 2 (ix1 ⟨t.val, lt_of_lt_of_eq t.isLt N_0⟩ : S216.Idx) : BitVec 32).toNat) :
    ((cfgM m hO).win 4).index t = ![e.val, 0, 0] := index_of (tbl m 2) t e he _
theorem index5 (t : Fin grid0.N) (e : Fin 16) (he : e.val = (tbl m 2 (ix1 ⟨t.val, lt_of_lt_of_eq t.isLt N_0⟩ : S216.Idx) : BitVec 32).toNat) :
    ((cfgM m hO).win 5).index t = ![e.val, 0, 0] := index_of (tbl m 2) t e he _

/-- The output's block moves with the grid point. -/
theorem place : ∀ t : Fin grid0.N, cc0_transform_7 (grid0.coords t) = ![t.val, 0] := by decide +kernel
theorem index6 (t : Fin grid0.N) : ((cfgM m hO).win 6).index t = ![t.val, 0] := place t

/-- Every grid point writes its block back. -/
theorem flushes (t : Fin grid0.N) : ((cfgM m hO).win 6).flush t = true := by
  unfold Pipeline.Window.flush
  by_cases h : t.val + 1 < grid0.N
  · have hne : ((cfgM m hO).win 6).index ⟨t.val + 1, h⟩ ≠ ((cfgM m hO).win 6).index t := by
      rw [index6, index6]
      intro e
      have := congrFun e 0
      simp at this
    rw [decide_eq_true (show ∃ h : t.val + 1 < (cfgM m hO).grid.N, ((cfgM m hO).win 6).index ⟨t.val + 1, h⟩ ≠ ((cfgM m hO).win 6).index t from ⟨h, hne⟩)]
    rw [Bool.or_true]; rfl
  · rw [decide_eq_true (show t.val + 1 = (cfgM m hO).grid.N from le_antisymm t.isLt (not_lt.1 h))]
    rw [Bool.true_or]; rfl

/-- The output's blocks tile its array. -/
theorem covers : ((cfgM m hO).win 6).Covers := by
  refine ⟨fun a => ?_, fun β => ?_⟩
  · match a with
    | ⟨0, _⟩ => show 0 < 256; omega
    | ⟨1, _⟩ => show 0 < 2048; omega
  · have h0 : (β ⟨0, Nat.two_pos⟩).val < 216 := lt_of_lt_of_eq (β ⟨0, Nat.two_pos⟩).isLt (show (55296 + 256 - 1) / 256 = 216 by norm_num)
    have h1 : (β ⟨1, Nat.one_lt_two⟩).val < 1 := lt_of_lt_of_eq (β ⟨1, Nat.one_lt_two⟩).isLt (show (2048 + 2048 - 1) / 2048 = 1 by norm_num)
    let t : Fin grid0.N := ⟨(β ⟨0, Nat.two_pos⟩).val, lt_of_lt_of_eq h0 N_0.symm⟩
    refine ⟨t, flushes m hO t, fun a => ⟨?_, Or.inl rfl⟩⟩
    rw [index6]
    match a with
    | ⟨0, _⟩ => rfl
    | ⟨1, _⟩ => show 0 = (β ⟨1, Nat.one_lt_two⟩).val; omega

/-! ## The blocks -/

variable (c : Dev nD)

theorem cast0 (i : S16x2048x512.Idx) : (V m c main_v0 i : EReal) = argW1 m c i := by
  entry_read
  rfl
theorem cast1 (i : S16x2048x512.Idx) : (V m c main_v1 i : EReal) = argW3 m c i := by
  entry_read
  rfl
theorem cast2 (i : S16x512x2048.Idx) : (V m c main_v2 i : EReal) = argW2 m c i := by
  entry_read
  rfl

theorem block0_at (t : Fin grid0.N) (e : Fin 16) (he : e.val = (tbl m 1 (ix1 ⟨t.val, lt_of_lt_of_eq t.isLt N_0⟩ : S216.Idx) : BitVec 32).toNat) (d : Fin 2048) (f : Fin 512) :
    (iblk m hO c 0 t (ix3 0 d f) : EReal) = argW1 m c (ix3 e d f) := by
  refine Eq.trans ?_ (cast0 m c (ix3 e d f))
  show V m c main_v0 ((((cfgM m hO).win 0).rect t).emb (ix3 0 d f)) = _
  refine congrArg (V m c main_v0) (funext fun a => Fin.ext ?_)
  refine (Pipeline.Window.rect_emb_val ((cfgM m hO).win 0) t (ix3 0 d f) a rfl).trans ?_
  rw [index0 m hO t e he]
  match a with
  | ⟨0, _⟩ => show e.val * 1 + 0 = e.val; omega
  | ⟨1, _⟩ => show 0 * 2048 + d.val = d.val; omega
  | ⟨2, _⟩ => show 0 * 512 + f.val = f.val; omega

theorem block1_at (t : Fin grid0.N) (e : Fin 16) (he : e.val = (tbl m 1 (ix1 ⟨t.val, lt_of_lt_of_eq t.isLt N_0⟩ : S216.Idx) : BitVec 32).toNat) (d : Fin 2048) (f : Fin 512) :
    (iblk m hO c 1 t (ix3 0 d f) : EReal) = argW3 m c (ix3 e d f) := by
  refine Eq.trans ?_ (cast1 m c (ix3 e d f))
  show V m c main_v1 ((((cfgM m hO).win 1).rect t).emb (ix3 0 d f)) = _
  refine congrArg (V m c main_v1) (funext fun a => Fin.ext ?_)
  refine (Pipeline.Window.rect_emb_val ((cfgM m hO).win 1) t (ix3 0 d f) a rfl).trans ?_
  rw [index1 m hO t e he]
  match a with
  | ⟨0, _⟩ => show e.val * 1 + 0 = e.val; omega
  | ⟨1, _⟩ => show 0 * 2048 + d.val = d.val; omega
  | ⟨2, _⟩ => show 0 * 512 + f.val = f.val; omega

theorem block2_at (t : Fin grid0.N) (e : Fin 16) (he : e.val = (tbl m 1 (ix1 ⟨t.val, lt_of_lt_of_eq t.isLt N_0⟩ : S216.Idx) : BitVec 32).toNat) (d : Fin 512) (f : Fin 2048) :
    (iblk m hO c 2 t (ix3 0 d f) : EReal) = argW2 m c (ix3 e d f) := by
  refine Eq.trans ?_ (cast2 m c (ix3 e d f))
  show V m c main_v2 ((((cfgM m hO).win 2).rect t).emb (ix3 0 d f)) = _
  refine congrArg (V m c main_v2) (funext fun a => Fin.ext ?_)
  refine (Pipeline.Window.rect_emb_val ((cfgM m hO).win 2) t (ix3 0 d f) a rfl).trans ?_
  rw [index2 m hO t e he]
  match a with
  | ⟨0, _⟩ => show e.val * 1 + 0 = e.val; omega
  | ⟨1, _⟩ => show 0 * 512 + d.val = d.val; omega
  | ⟨2, _⟩ => show 0 * 2048 + f.val = f.val; omega

theorem block3_at (t : Fin grid0.N) (e : Fin 16) (he : e.val = (tbl m 2 (ix1 ⟨t.val, lt_of_lt_of_eq t.isLt N_0⟩ : S216.Idx) : BitVec 32).toNat) (d : Fin 2048) (f : Fin 512) :
    (iblk m hO c 3 t (ix3 0 d f) : EReal) = argW1 m c (ix3 e d f) := by
  refine Eq.trans ?_ (cast0 m c (ix3 e d f))
  show V m c main_v0 ((((cfgM m hO).win 3).rect t).emb (ix3 0 d f)) = _
  refine congrArg (V m c main_v0) (funext fun a => Fin.ext ?_)
  refine (Pipeline.Window.rect_emb_val ((cfgM m hO).win 3) t (ix3 0 d f) a rfl).trans ?_
  rw [index3 m hO t e he]
  match a with
  | ⟨0, _⟩ => show e.val * 1 + 0 = e.val; omega
  | ⟨1, _⟩ => show 0 * 2048 + d.val = d.val; omega
  | ⟨2, _⟩ => show 0 * 512 + f.val = f.val; omega

theorem block4_at (t : Fin grid0.N) (e : Fin 16) (he : e.val = (tbl m 2 (ix1 ⟨t.val, lt_of_lt_of_eq t.isLt N_0⟩ : S216.Idx) : BitVec 32).toNat) (d : Fin 2048) (f : Fin 512) :
    (iblk m hO c 4 t (ix3 0 d f) : EReal) = argW3 m c (ix3 e d f) := by
  refine Eq.trans ?_ (cast1 m c (ix3 e d f))
  show V m c main_v1 ((((cfgM m hO).win 4).rect t).emb (ix3 0 d f)) = _
  refine congrArg (V m c main_v1) (funext fun a => Fin.ext ?_)
  refine (Pipeline.Window.rect_emb_val ((cfgM m hO).win 4) t (ix3 0 d f) a rfl).trans ?_
  rw [index4 m hO t e he]
  match a with
  | ⟨0, _⟩ => show e.val * 1 + 0 = e.val; omega
  | ⟨1, _⟩ => show 0 * 2048 + d.val = d.val; omega
  | ⟨2, _⟩ => show 0 * 512 + f.val = f.val; omega

theorem block5_at (t : Fin grid0.N) (e : Fin 16) (he : e.val = (tbl m 2 (ix1 ⟨t.val, lt_of_lt_of_eq t.isLt N_0⟩ : S216.Idx) : BitVec 32).toNat) (d : Fin 512) (f : Fin 2048) :
    (iblk m hO c 5 t (ix3 0 d f) : EReal) = argW2 m c (ix3 e d f) := by
  refine Eq.trans ?_ (cast2 m c (ix3 e d f))
  show V m c main_v2 ((((cfgM m hO).win 5).rect t).emb (ix3 0 d f)) = _
  refine congrArg (V m c main_v2) (funext fun a => Fin.ext ?_)
  refine (Pipeline.Window.rect_emb_val ((cfgM m hO).win 5) t (ix3 0 d f) a rfl).trans ?_
  rw [index5 m hO t e he]
  match a with
  | ⟨0, _⟩ => show e.val * 1 + 0 = e.val; omega
  | ⟨1, _⟩ => show 0 * 512 + d.val = d.val; omega
  | ⟨2, _⟩ => show 0 * 2048 + f.val = f.val; omega

/-! ## The rows -/

/-- A tile's row is the token its table names. -/
theorem token (t : ℕ) (r : Fin 256) (ht : t < 216) (hs : ∀ i, (argS m 0 i).toNat < 49152) :
    gOf m t r = ⟨(argS m 0 (ix1 ⟨256 * t + r.val, by omega⟩)).toNat, hs _⟩ := by
  refine Fin.ext ?_
  have e : (fun | ⟨0, _⟩ => (⟨(256 * t + r.val) % 55296, Nat.mod_lt _ (by omega)⟩ : Fin 55296) : S55296.Idx) = ix1 ⟨256 * t + r.val, by omega⟩ := by
    funext k
    match k with
    | ⟨0, _⟩ => exact Fin.ext (Nat.mod_eq_of_lt (show 256 * t + r.val < 55296 by omega))
  show ((tbl m 0 _ : BitVec 32).toNat % 49152 : ℕ) = _
  rw [tbl0]
  refine Eq.trans (congrArg (fun y => (argS m 0 y).toNat % 49152) e) (Nat.mod_eq_of_lt (hs _))

/-- A tile's number of rows. -/
theorem rows_at (t : ℕ) (ht : t < 216) : rowAt (tabR m) t = argR m 0 (ix1 ⟨t, ht⟩) := by
  unfold rowAt tabR
  rw [tbl3]
  refine congrArg (argR m 0) (funext fun k => ?_)
  match k with
  | ⟨0, _⟩ => exact Fin.ext (Nat.mod_eq_of_lt ht)

/-- A row of a tile. -/
theorem row_at (H : S49152x2176.Idx → EReal) (g : ℕ → Fin 256 → Fin 49152) (n : ℕ) (r : Fin 256) (d : Fin 2048) :
    hTile (F := Ideal) H g n (ix3 0 r d) = H (ix2 (g n r) ⟨d.val, by omega⟩) := by
  refine congrArg H (funext fun k => ?_)
  match k with
  | ⟨0, _⟩ => rfl
  | ⟨1, _⟩ => rfl

/-- A row's weights. -/
theorem weights_at (H : S49152x2176.Idx → EReal) (g : ℕ → Fin 256 → Fin 49152) (n : ℕ) (r : Fin 256) (l : Fin 128) :
    wTile (F := Ideal) H g n (ix3 0 r l) = H (ix2 (g n r) ⟨2048 + l.val, by omega⟩) := by
  refine congrArg H (funext fun k => ?_)
  match k with
  | ⟨0, _⟩ => rfl
  | ⟨1, _⟩ => rfl

/-- An expert's part of a row. -/
theorem part_at (H : FVec Ideal S49152x2176 .f32) (w1 w3 : FVec Ideal S16x2048x512 .f32) (w2 : FVec Ideal S16x512x2048 .f32)
    (g : ℕ → Fin 256 → Fin 49152) (n : ℕ) (x y : Vec Ideal S1x2048x512 .bf16) (z : Vec Ideal S1x512x2048 .bf16) (e : Fin 16)
    (hx : ∀ (d : Fin 2048) (f : Fin 512), x (ix3 0 d f) = w1 (ix3 e d f)) (hy : ∀ (d : Fin 2048) (f : Fin 512), y (ix3 0 d f) = w3 (ix3 e d f))
    (hz : ∀ (f : Fin 512) (j : Fin 2048), z (ix3 0 f j) = w2 (ix3 e f j)) (r : Fin 256) (j : Fin 2048) :
    ∑ f : Fin 512, k0_pay5 (F := Ideal) (hTile (F := Ideal) H g n) x y (ix2 r f) * z (ix3 0 f j) = expert H w1 w3 w2 (g n r) e j := by
  unfold expert
  refine Finset.sum_congr rfl fun f _ => ?_
  rw [act_at, mul_comm]
  simp only [row_at, hx, hy, hz]

/-- A tile read at an element: the two experts' parts, weighted, if the tile is used. -/
theorem tile_at (H : FVec Ideal S49152x2176 .f32) (w1 w3 : FVec Ideal S16x2048x512 .f32) (w2 : FVec Ideal S16x512x2048 .f32)
    (g : ℕ → Fin 256 → Fin 49152) (R : S216.Idx → BitVec 32) (n : ℕ) (x0 x1 x3 x4 : Vec Ideal S1x2048x512 .bf16) (x2 x5 : Vec Ideal S1x512x2048 .bf16) (a b : Fin 16)
    (h0 : ∀ (d : Fin 2048) (f : Fin 512), x0 (ix3 0 d f) = w1 (ix3 a d f)) (h1 : ∀ (d : Fin 2048) (f : Fin 512), x1 (ix3 0 d f) = w3 (ix3 a d f))
    (h2 : ∀ (f : Fin 512) (j : Fin 2048), x2 (ix3 0 f j) = w2 (ix3 a f j))
    (h3 : ∀ (d : Fin 2048) (f : Fin 512), x3 (ix3 0 d f) = w1 (ix3 b d f)) (h4 : ∀ (d : Fin 2048) (f : Fin 512), x4 (ix3 0 d f) = w3 (ix3 b d f))
    (h5 : ∀ (f : Fin 512) (j : Fin 2048), x5 (ix3 0 f j) = w2 (ix3 b f j)) (r : Fin 256) (j : Fin 2048) :
    tileOut (F := Ideal) H g R n x0 x1 x3 x4 x2 x5 (ix2 r j)
      = if Scalar.cmpi .sgt (rowAt R n) 0#32 = 1#1 then expert H w1 w3 w2 (g n r) a j * H (ix2 (g n r) ⟨2048, by omega⟩)
          + expert H w1 w3 w2 (g n r) b j * H (ix2 (g n r) ⟨2049, by omega⟩) else 0 := by
  unfold tileOut
  by_cases hu : used (rowAt R n)
  · rw [if_pos hu, if_pos (show Scalar.cmpi .sgt (rowAt R n) 0#32 = 1#1 from hu), both_at, first_at, weight_at, weights_at, weights_at,
      part_at H w1 w3 w2 g n x0 x1 x2 a h0 h1 h2, part_at H w1 w3 w2 g n x3 x4 x5 b h3 h4 h5]
    rfl
  · rw [if_neg hu, if_neg (show ¬ Scalar.cmpi .sgt (rowAt R n) 0#32 = 1#1 from hu), unused_at]

/-- What a grid point leaves in its tile is the reference's result there. -/
theorem point (hs : ∀ i, (argS m c i).toNat < 49152) (ha : ∀ i, (argA m c i).toNat < 16) (hb : ∀ i, (argB m c i).toNat < 16)
    (hne : ∀ i, argA m c i ≠ argB m c i) (t : Fin grid0.N) (r : Fin 256) (j : Fin 2048) :
    tileOut (toks m c) (gOf m) (tabR m) t.val (iblk m hO c 0 t) (iblk m hO c 1 t) (iblk m hO c 3 t) (iblk m hO c 4 t) (iblk m hO c 2 t) (iblk m hO c 5 t) (ix2 r j)
      = REF (argS m c) (argA m c) (argB m c) (argR m c) (argH m c) (argW1 m c) (argW3 m c) (argW2 m c)
          (ix2 ⟨256 * t.val + r.val, by have : t.val < 216 := lt_of_lt_of_eq t.isLt N_0; omega⟩ j) := by
  obtain rfl : c = 0 := Subsingleton.elim _ _
  have ht : t.val < 216 := lt_of_lt_of_eq t.isLt N_0
  have et : (⟨(256 * t.val + r.val) / 256, by omega⟩ : Fin 216) = ⟨t.val, ht⟩ := Fin.ext (show (256 * t.val + r.val) / 256 = t.val by omega)
  rw [REF_at _ _ _ _ _ _ _ _ _ j (hs _) (ha _) (hb _) (hne _)]
  have er : rowAt (tabR m) t.val = argR m 0 (ix1 ⟨(256 * t.val + r.val) / 256, by omega⟩) := by rw [rows_at m t.val ht]; exact congrArg (fun k => argR m 0 (ix1 k)) et.symm
  have ea : (argA m 0 (ix1 ⟨(256 * t.val + r.val) / 256, by omega⟩)).toNat = (tbl m 1 (ix1 ⟨t.val, lt_of_lt_of_eq t.isLt N_0⟩ : S216.Idx) : BitVec 32).toNat := by
    rw [tbl1]; exact congrArg (fun k => (argA m 0 (ix1 k)).toNat) et
  have eb : (argB m 0 (ix1 ⟨(256 * t.val + r.val) / 256, by omega⟩)).toNat = (tbl m 2 (ix1 ⟨t.val, lt_of_lt_of_eq t.isLt N_0⟩ : S216.Idx) : BitVec 32).toNat := by
    rw [tbl2]; exact congrArg (fun k => (argB m 0 (ix1 k)).toNat) et
  have eh : (toks m 0 : S49152x2176.Idx → EReal) = argH m 0 := V_main_arg4 m 0
  refine (tile_at (toks m 0) (argW1 m 0) (argW3 m 0) (argW2 m 0) (gOf m) (tabR m) t.val _ _ _ _ _ _ ⟨_, ha _⟩ ⟨_, hb _⟩
    (block0_at m hO 0 t _ ea) (block1_at m hO 0 t _ ea) (block2_at m hO 0 t _ ea)
    (block3_at m hO 0 t _ eb) (block4_at m hO 0 t _ eb) (block5_at m hO 0 t _ eb) r j).trans ?_
  rw [eh, er, token m t.val r ht hs]

/-- The array the kernel leaves is the reference's result. -/
theorem final (hs : ∀ i, (argS m c i).toNat < 49152) (ha : ∀ i, (argA m c i).toNat < 16) (hb : ∀ i, (argB m c i).toNat < 16)
    (hne : ∀ i, argA m c i ≠ argB m c i) :
    (dats m hO 0 c).arrAt 6 (cfgM m hO).N
      = REF (argS m c) (argA m c) (argB m c) (argR m c) (argH m c) (argW1 m c) (argW3 m c) (argW2 m c) := by
  refine (dats m hO 0 c).arrAt_eq_of_covers 6 _ (covers m hO) fun t _ y => ?_
  have ht : t.val < 216 := lt_of_lt_of_eq t.isLt N_0
  refine Eq.trans (show _ = (dats m hO 0 c).after 6 t (fun | ⟨0, _⟩ => (y ⟨0, Nat.two_pos⟩ : Fin 256) | ⟨1, _⟩ => (y ⟨1, Nat.one_lt_two⟩ : Fin 2048)) from ?_) ?_
  · refine congrArg ((dats m hO 0 c).after 6 t) (funext fun a => ?_)
    match a with
    | ⟨0, _⟩ => rfl
    | ⟨1, _⟩ => rfl
  rw [after0_6]
  refine Eq.trans (congrArg _ ?_) ((point m hO c hs ha hb hne t (y ⟨0, Nat.two_pos⟩ : Fin 256) (y ⟨1, Nat.one_lt_two⟩ : Fin 2048)).trans (congrArg _ ?_))
  · funext a
    match a with
    | ⟨0, _⟩ => rfl
    | ⟨1, _⟩ => rfl
  · funext a
    refine Fin.ext (Eq.trans ?_ (Pipeline.Window.rect_emb_val ((cfgM m hO).win 6) t y a rfl).symm)
    rw [index6]
    match a with
    | ⟨0, _⟩ => show 256 * t.val + (y ⟨0, Nat.two_pos⟩).val = t.val * 256 + (y ⟨0, Nat.two_pos⟩).val; omega
    | ⟨1, _⟩ => show (y ⟨1, Nat.one_lt_two⟩).val = 0 * 2048 + (y ⟨1, Nat.one_lt_two⟩).val; omega

variable (ρ : Dev nD → PrngReg)

/-- The run: the result's array is the pipeline's, and the arguments are unchanged. -/
theorem run_blocks : θ_run defs (onTc (τ := τ) (main (F := Ideal))) ⟨m, fun _ => 0, ρ⟩ fun r => ∀ c : Dev nD,
      r.2.mem ((c : Thread nD τ).loc main_v3) = (dats m hO 0 c).arrAt 6 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h.1 c).1 6,
    ((h.1 c).2 main_arg0 (by decide : main_arg0 ∈ Pipeline.restRefs sig spec0)).trans (V_main_arg0 m c),
    ((h.1 c).2 main_arg1 (by decide : main_arg1 ∈ Pipeline.restRefs sig spec0)).trans (V_main_arg1 m c),
    ((h.1 c).2 main_arg2 (by decide : main_arg2 ∈ Pipeline.restRefs sig spec0)).trans (V_main_arg2 m c),
    ((h.1 c).2 main_arg3 (by decide : main_arg3 ∈ Pipeline.restRefs sig spec0)).trans (V_main_arg3 m c),
    ((h.1 c).2 main_arg4 (by decide : main_arg4 ∈ Pipeline.restRefs sig spec0)).trans (V_main_arg4 m c),
    ((h.1 c).2 main_arg5 (by decide : main_arg5 ∈ Pipeline.restRefs sig spec0)).trans (V_main_arg5 m c),
    ((h.1 c).2 main_arg6 (by decide : main_arg6 ∈ Pipeline.restRefs sig spec0)).trans (V_main_arg6 m c),
    ((h.1 c).2 main_arg7 (by decide : main_arg7 ∈ Pipeline.restRefs sig spec0)).trans (V_main_arg7 m c)⟩) (run_main_quiescent m ρ hO)

end Cert.Kernel2Ideal.Value

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Equation
public import proofs.«01_k».proof.Proof.Finite
public import proofs.«01_k».proof.Proof.Experts
public import proofs.«01_k».proof.Proof.Admit
public import proofs.«01_k».proof.Proof.AdmitIdeal
public import proofs.«01_k».proof.Proof.Tiles
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import Idealize.ShloMosaic.Lib.Claim

@[expose] public section

set_option maxRecDepth 16384

noncomputable section

namespace Cert.Proof

open Idealize.ShloMosaic Idealize.ShloMosaic.TcCoe Idealize.SL.Sem

/-- The kernel runs without a fault and leaves its arguments unchanged. -/
theorem frame_Kernel : Cert.quiescent_Kernel := fun m g _ => Cert.Kernel.Gen.frame m g

/-- So does the idealized kernel. -/
theorem frame_KernelIdeal : Cert.quiescent_KernelIdeal := fun m g _ => Cert.KernelIdeal.Gen.frame m g

/-- So does the idealized reference, which has no semaphore. -/
theorem frame_ReferenceIdeal : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

/-- The mask's constant is named minus infinity. -/
theorem preserves : Cert.preserves_Kernel_KernelIdeal :=
  IdealRules.named_const.statement Cert.KernelIdeal.κ "mask" .f32 0xF149F2CA#32 ⊥ rfl

/-- For real queries and keys the idealized kernel leaves the idealized reference's result. -/
theorem attention : Cert.algebraic_KernelIdeal_ReferenceIdeal_pre_finite_qk (hPre_finite_qk := Cert.Pre_finite_qk.facts) := by
  pair_intro
  · run_from Cert.KernelIdeal.Value.run_blocks m g
  · run_from Cert.ReferenceIdeal.Value.run m' g'
    obtain ⟨hq, hk⟩ := @Cert.Pre_finite_qk.reals Cert.Pre_finite_qk.facts _ _ _ _ (hpre c)
    refine Eq.trans ?_ (Cert.KernelIdeal.Value.final m c hq hk).symm
    obtain ⟨a0, a1, a2, a3⟩ := hagree c
    refine (Cert.ReferenceIdeal.Value.res_eq m' c).trans ?_
    rw [a0, a1, a2, a3]

/-- The expert kernel runs without a fault and leaves its arguments unchanged. -/
theorem frame_Kernel2 : Cert.quiescent_Kernel2 (hPre_routed := Cert.Pre_routed.facts) :=
  fun m g h => Cert.Kernel2.Gen.frame m g (Cert.Kernel2.Gen.ok_of_pre m h)

/-- So does the idealized expert kernel. -/
theorem frame_Kernel2Ideal : Cert.quiescent_Kernel2Ideal (hPre_routed := Cert.Pre_routed.facts) :=
  fun m g h => Cert.Kernel2Ideal.Gen.frame m g (Cert.Kernel2Ideal.Gen.ok_of_pre m h)

/-- So does the idealized reference of the experts, which has no semaphore. -/
theorem frame_Reference2Ideal : Cert.quiescent_Reference2Ideal := by
  intro m g _
  exact (θ_run Cert.Reference2Ideal.defs _ _).mono (fun r h => ⟨fun c => (h c).2, sem_eq_zero_of_no_sems (by decide) r.2⟩)
    (Cert.Reference2Ideal.Value.run m g)

/-- The idealized expert kernel leaves the idealized reference's result. -/
theorem experts : Cert.algebraic_Kernel2Ideal_Reference2Ideal (hPre_routed := Cert.Pre_routed.facts) := by
  intro m g m' g' hpre hagree
  have hO := Cert.Kernel2Ideal.Gen.ok_of_pre m hpre
  refine ⟨fun c => (Cert.Kernel2Ideal.Gen.dats m hO 0 c).arrAt 6 (Cert.Kernel2Ideal.Gen.cfgM m hO).N, Cert.Kernel2Ideal.Value.run_blocks m hO g, ?_⟩
  refine (θ_run Cert.Reference2Ideal.defs _ _).mono (fun r h c => ⟨(h c).1.trans ?_, (h c).2⟩) (Cert.Reference2Ideal.Value.run m' g')
  obtain ⟨hs, ha, hb, hne, -⟩ := @Cert.Pre_routed.reads Cert.Pre_routed.facts _ _ _ _ _ _ _ _ _ _ (hpre c)
  refine Eq.trans ?_ (Cert.Kernel2Ideal.Value.final m hO c hs ha hb hne).symm
  obtain ⟨a0, a1, a2, a3, a4, a5, a6, a7⟩ := hagree c
  refine (Cert.Reference2Ideal.Value.res_eq m' c).trans ?_
  rw [a0, a1, a2, a3, a4, a5, a6, a7]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite_qk.facts, Cert.Pre_routed.facts,
  frame_Kernel, frame_KernelIdeal, fun m g _ => frame_KernelIdeal m g trivial, frame_ReferenceIdeal, fun m g _ => frame_ReferenceIdeal m g trivial,
  frame_Kernel2, frame_Kernel2Ideal, frame_Reference2Ideal, fun m g _ => frame_Reference2Ideal m g trivial,
  preserves, attention, trivial, experts⟩

end Cert.Proof

end
